-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1536, 768]⟩ ⟨2, ![1536, 1536]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![768, 1536]⟩ ⟨2, ![1536, 3072]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1536, 1536]⟩ ⟨2, ![1536, 3072]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S8x192x1536 : Shape := ⟨3, ![8, 192, 1536]⟩
abbrev S8 : Shape := ⟨1, ![8]⟩
abbrev S_ : Shape := ⟨0, ![]⟩
abbrev S192x768 : Shape := ⟨2, ![192, 768]⟩
abbrev S192x1536 : Shape := ⟨2, ![192, 1536]⟩
abbrev S1x192x1536 : Shape := ⟨3, ![1, 192, 1536]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S1536x1536, .f32⟩
  | .local _ .vmem, ⟨0, _⟩ => ⟨S1536x768, .f32⟩
  | .local _ .vmem, ⟨1, _⟩ => ⟨S768x1536, .f32⟩
  | .local _ .vmem, ⟨2, _⟩ => ⟨S1536x1536, .f32⟩
  | .local _ .vmem, ⟨3, _⟩ => ⟨S8x192x1536, .bf16⟩
  | .local _ .vmem, ⟨4, _⟩ => ⟨S8x192x1536, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_20 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_19 : BitVec 32 := 2#32
  let v22 : BitVec 32 := Scalar.muli v6 c2_i32_19
  let v23 : BitVec 32 := Scalar.addi c0_i32_20 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_21 : BitVec 32 := 1#32
  let v24 : BitVec 32 := Scalar.muli v5 c1_i32_21
  let v25 : BitVec 32 := Scalar.addi v23 v24
  v25.toNat
def k0_dev3 (d0 : Dev nD) : Nat :=
  let c0_i32_39 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_38 : BitVec 32 := 2#32
  let v44 : BitVec 32 := Scalar.muli v6 c2_i32_38
  let v45 : BitVec 32 := Scalar.addi c0_i32_39 v44
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v46 : BitVec 32 := Scalar.muli v5 c1_i32_40
  let v47 : BitVec 32 := Scalar.addi v45 v46
  v47.toNat
def k0_dev4 (d0 : Dev nD) : Nat :=
  let c0_i32_58 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_57 : BitVec 32 := 2#32
  let v66 : BitVec 32 := Scalar.muli v6 c2_i32_57
  let v67 : BitVec 32 := Scalar.addi c0_i32_58 v66
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_59 : BitVec 32 := 1#32
  let v68 : BitVec 32 := Scalar.muli v5 c1_i32_59
  let v69 : BitVec 32 := Scalar.addi v67 v68
  v69.toNat
def k0_dev5 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v88 : BitVec 32 := Scalar.muli v6 c2_i32_75
  let v89 : BitVec 32 := Scalar.addi c0_i32_76 v88
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v90 : BitVec 32 := Scalar.muli v5 c1_i32_77
  let v91 : BitVec 32 := Scalar.addi v89 v90
  v91.toNat
def k0_dev6 (d0 : Dev nD) : Nat :=
  let c0_i32_94 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_93 : BitVec 32 := 2#32
  let v110 : BitVec 32 := Scalar.muli v6 c2_i32_93
  let v111 : BitVec 32 := Scalar.addi c0_i32_94 v110
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_95 : BitVec 32 := 1#32
  let v112 : BitVec 32 := Scalar.muli v5 c1_i32_95
  let v113 : BitVec 32 := Scalar.addi v111 v112
  v113.toNat
def k0_dev7 (d0 : Dev nD) : Nat :=
  let c0_i32_112 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_111 : BitVec 32 := 2#32
  let v132 : BitVec 32 := Scalar.muli v6 c2_i32_111
  let v133 : BitVec 32 := Scalar.addi c0_i32_112 v132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_113 : BitVec 32 := 1#32
  let v134 : BitVec 32 := Scalar.muli v5 c1_i32_113
  let v135 : BitVec 32 := Scalar.addi v133 v134
  v135.toNat
def k0_dev8 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v154 : BitVec 32 := Scalar.muli v6 c2_i32_129
  let v155 : BitVec 32 := Scalar.addi c0_i32_130 v154
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v156 : BitVec 32 := Scalar.muli v5 c1_i32_131
  let v157 : BitVec 32 := Scalar.addi v155 v156
  v157.toNat
def k0_dev9 (d0 : Dev nD) : Nat :=
  let c0_i32_148 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_147 : BitVec 32 := 2#32
  let v176 : BitVec 32 := Scalar.muli v6 c2_i32_147
  let v177 : BitVec 32 := Scalar.addi c0_i32_148 v176
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_149 : BitVec 32 := 1#32
  let v178 : BitVec 32 := Scalar.muli v5 c1_i32_149
  let v179 : BitVec 32 := Scalar.addi v177 v178
  v179.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x1536 : Shape := ⟨2, ![1536, 1536]⟩
abbrev S1536x3072 : Shape := ⟨2, ![1536, 3072]⟩

abbrev nBuf : Space → Nat
  | .hbm => 3
  | .vmem => 0
  | .smem => 0
  | _ => 0

abbrev bufTy : (tb : Table) → Fin (tcTables nBuf tb) → BufTy
  | .hbm, ⟨0, _⟩ => ⟨S1536x1536, .f32⟩
  | .hbm, ⟨1, _⟩ => ⟨S1536x3072, .f32⟩
  | .hbm, ⟨2, _⟩ => ⟨S1536x3072, .f32⟩
  | _, _ => ⟨S1536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
# The kernel body as sixteen steps

The printed body unrolls a loop over eight chunks of 192 rows twice: once to multiply, store and send each chunk, once
to await and add the chunk the mate device sent. Here each loop body is written once, over the chunk's number, and the
printed body is shown to be the two loops one after the other.
-/
module

public import proofs.«01_k».proof.Proof.Gen.KernelIdeal.Skeleton

@[expose] public section

noncomputable section

namespace Cert.Chunks

open Cert.KernelIdeal Cert.KernelIdeal.Gen
open Idealize.ShloMosaic Idealize.SL.Sem

variable {F : FTy → Type} [FloatOps F]

/-! ## Buffers, rectangles and semaphores of chunk `k` -/

/-- The staged block of the left operand, of the right operand, and of the result; the outgoing and the landing scratch. -/
abbrev aM : Memref sig .tc .vmem S1536x768 .f32 := Memref.whole cc0_stg0_0
abbrev bM : Memref sig .tc .vmem S768x1536 .f32 := Memref.whole cc0_stg1_0
abbrev oM : Memref sig .tc .vmem S1536x1536 .f32 := Memref.whole cc0_stg2_0
abbrev sM : Memref sig .tc .vmem S8x192x1536 .bf16 := Memref.whole cc0_scratch0
abbrev rM : Memref sig .tc .vmem S8x192x1536 .bf16 := Memref.whole cc0_scratch1

theorem inbA (k : Fin 8) : ∀ a, (![192 * k.val, 0] : Fin 2 → Nat) a + S192x768.size a ≤ S1536x768.size a := by
  revert k; decide
theorem inbO (k : Fin 8) : ∀ a, (![192 * k.val, 0] : Fin 2 → Nat) a + S192x1536.size a ≤ S1536x1536.size a := by
  revert k; decide
theorem inbS (k : Fin 8) : ∀ a, (![k.val, 0, 0] : Fin 3 → Nat) a + S1x192x1536.size a ≤ S8x192x1536.size a := by
  revert k; decide
theorem inbSem (k : Fin 8) : ∀ a, (![k.val] : Fin 1 → Nat) a + S1.size a ≤ S8.size a := by
  revert k; decide

/-- Rows `192 k …` of the left block; all of the right block; rows `192 k …` of the result; slot `k` of a scratch. -/
abbrev aR (k : Fin 8) : Rect S1536x768 := Rect.unit (s := S1536x768) ![192 * k.val, 0] S192x768.size (inbA k)
abbrev bR : Rect S768x1536 := Rect.unit (s := S768x1536) ![0, 0] S768x1536.size inb_S768x1536_S768x1536_0_0
abbrev oR (k : Fin 8) : Rect S1536x1536 := Rect.unit (s := S1536x1536) ![192 * k.val, 0] S192x1536.size (inbO k)
abbrev tR (k : Fin 8) : Rect S8x192x1536 := Rect.unit (s := S8x192x1536) ![k.val, 0, 0] S1x192x1536.size (inbS k)

/-- Slot `k` of the outgoing and of the landing scratch, as a matrix. -/
abbrev sSlot (k : Fin 8) : Memref sig .tc .vmem S192x1536 .bf16 :=
  (sM.slice (tR k) (fun _ => rfl)).squeeze S192x1536 squeezes_S1x192x1536_S192x1536
abbrev rSlot (k : Fin 8) : Memref sig .tc .vmem S192x1536 .bf16 :=
  (rM.slice (tR k) (fun _ => rfl)).squeeze S192x1536 squeezes_S1x192x1536_S192x1536

/-- The semaphore counting chunk `k` out, and the one counting it in. -/
abbrev sendS (k : Fin 8) : DmaSem sig :=
  ((cc0_scratch2.slice (Rect.unit (s := S8) ![k.val] S1.size (inbSem k))).squeeze S_ squeezes_S1_S_).sem
abbrev recvS (k : Fin 8) : DmaSem sig :=
  ((cc0_scratch3.slice (Rect.unit (s := S8) ![k.val] S1.size (inbSem k))).squeeze S_ squeezes_S1_S_).sem

/-- The barrier semaphore. -/
abbrev barS : Sem sig := (SemArray.scalar (sig.barrier 0 rfl) : Sems sig S_).sem

/-- A slot of a scratch is whole words, and a store to it is exact. -/
theorem words (k : Fin 8) : (tR k).WholeWords (EltTy.packing .bf16) := by
  revert k; decide
theorem packed (k : Fin 8) : (tR k).PackedRows (EltTy.packing .bf16) := by
  revert k; decide

theorem sWord (k : Fin 8) : (sSlot k).view.WordExact :=
  ((Memref.isWhole_whole cc0_scratch0).wordExact_slice rfl _ (words k)).reshape _ _
theorem rWord (k : Fin 8) : (rSlot k).view.WordExact :=
  ((Memref.isWhole_whole cc0_scratch1).wordExact_slice rfl _ (words k)).reshape _ _

/-! ## The two loop bodies -/

/-- Multiply chunk `k`, store it in the result and, rounded, in slot `k` of the outgoing scratch; send that slot to
    device `n`'s slot `k` of its landing scratch. -/
def mulSend (k : Fin 8) (n : Dev nD) : Prog (TpuEff nD τ sig (Elt F) Λ₀ .tc) PUnit := do
  let a : Vec F S192x768 .f32 ← Prog.lift (.load aM (aR k).toLoadRect (View.loadsAt_vmem h_S192x768))
  let b : Vec F S768x1536 .f32 ← Prog.lift (.load bM bR.toLoadRect (View.loadsAt_vmem h_S768x1536))
  let _o : Vec F S192x1536 .f32 ← Prog.lift (.load oM (oR k).toLoadRect (View.loadsAt_vmem h_S192x1536))
  Prog.lift (.store oM (oR k) (k0_pay2 a b) Finset.univ (View.stores_vmem_bits_univ h_S192x1536 rfl) (.inl rfl))
  let _s : Vec F S1x192x1536 .bf16 ← Prog.lift (.load sM (tR k).toLoadRect (View.loadsAt_vmem h_S1x192x1536))
  Prog.lift (.store sM (tR k) (k0_pay3 a b) Finset.univ
    (View.stores_vmem h_S1x192x1536 ((Memref.isWhole_whole cc0_scratch0).storeExact_slice rfl _ (packed k)) (fun _ => rfl)) (.inl rfl))
  Prog.lift (.enqueueDma (sSlot k) (.remote (Dev.tc n) (rSlot k) (.dma (sendS k))) (.dma (recvS k)) (sWord k) (rWord k)
    ⟨⟨rfl, Or.inl rfl⟩, trivial⟩)

/-- Await that chunk `k` has left and that the mate's has come; add the mate's to the result's rows. -/
def awaitAdd (k : Fin 8) : Prog (TpuEff nD τ sig (Elt F) Λ₀ .tc) PUnit := do
  Prog.lift (.waitDma2 (sendS k) (rSlot k) (sSlot k) (rWord k) (sWord k))
  Prog.lift (.waitDma2 (recvS k) (sSlot k) (rSlot k) (sWord k) (rWord k))
  let o : Vec F S192x1536 .f32 ← Prog.lift (.load oM (oR k).toLoadRect (View.loadsAt_vmem h_S192x1536))
  let r : Vec F S1x192x1536 .bf16 ← Prog.lift (.load rM (tR k).toLoadRect (View.loadsAt_vmem h_S1x192x1536))
  let _o : Vec F S192x1536 .f32 ← Prog.lift (.load oM (oR k).toLoadRect (View.loadsAt_vmem h_S192x1536))
  Prog.lift (.store oM (oR k) (k0_pay1 o r) Finset.univ (View.stores_vmem_bits_univ h_S192x1536 rfl) (.inl rfl))

/-- The programs `f k` for the `k` listed, in order, then `p`. -/
def inOrder (f : Fin 8 → Prog (TpuEff nD τ sig (Elt F) Λ₀ .tc) PUnit) (p : Prog (TpuEff nD τ sig (Elt F) Λ₀ .tc) PUnit) :
    List (Fin 8) → Prog (TpuEff nD τ sig (Elt F) Λ₀ .tc) PUnit
  | [] => p
  | k :: l => f k >>= fun _ => inOrder f p l

/-- The chunks, in the order both loops take them. -/
abbrev order : List (Fin 8) := [0, 1, 2, 3, 4, 5, 6, 7]

/-- The device each chunk's transfer is addressed to, as the kernel computes it chunk by chunk. -/
def target (c : Dev nD) : Fin 8 → Dev nD := ![
  ⟨k0_dev2 c, k0_dev2_lt c⟩, ⟨k0_dev3 c, k0_dev3_lt c⟩, ⟨k0_dev4 c, k0_dev4_lt c⟩, ⟨k0_dev5 c, k0_dev5_lt c⟩,
  ⟨k0_dev6 c, k0_dev6_lt c⟩, ⟨k0_dev7 c, k0_dev7_lt c⟩, ⟨k0_dev8 c, k0_dev8_lt c⟩, ⟨k0_dev9 c, k0_dev9_lt c⟩]

/-- The body: meet the mate at the barrier, then the two loops. -/
def body : Prog (TpuEff nD τ sig (Elt F) Λ₀ .tc) PUnit := do
  let c : Dev nD ← Prog.lift .deviceId
  semSignalWord (⟨k0_dev1 c, k0_dev1_lt c⟩ : Dev nD) barS 1#32
  semWaitWord barS 1#32
  inOrder (fun k => mulSend k (target c k)) (inOrder awaitAdd (pure ⟨⟩) order) order

set_option maxRecDepth 65536 in
/-- The printed kernel function, called on its staging buffers and scratches, is `body`. -/
theorem body_eq : cc0_body (F := F) (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) cc0_scratch2 cc0_scratch3 = body := rfl

end Cert.Chunks

end
-- ==== Proof.Protocol.lean ====
/-
# The exchange: who signals whom, and what each signal hands over

Device `c = (x, y)` works with its mate `(1 - x, y)`. At the barrier each hands the other its landing scratch, slot by
slot. Each then sends every chunk of its own product into the mate's slot of the same number; the arrival hands the
mate that slot, filled, and the departure hands the sender its own slot back.

Seventeen semaphores a device take part: the barrier's, eight counting chunks out, eight counting chunks in. They are
indexed by one type, so every fact below is stated once for all of them.
-/
module

public import proofs.«01_k».proof.Proof.Steps
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Chunks

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The mate -/

/-- Device `(x, y)`, of logical id `2 x + y`, works with `(1 - x, y)`. -/
def mate (c : Dev nD) : Dev nD :=
  ⟨((c.val % 2) + 2) - 2 * (c.val / 2), by have := c.isLt; revert this; generalize c.val = v; decide +revert⟩

theorem mate_mate (c : Dev nD) : mate (mate c) = c := by revert c; decide

/-- The device the kernel signals, and the one it addresses each chunk to, is the mate. -/
theorem signalled_eq (c : Dev nD) : (⟨k0_dev1 c, k0_dev1_lt c⟩ : Dev nD) = mate c := Fin.ext (k0_dev1_eq c)
theorem target_eq (c : Dev nD) (k : Fin 8) : target c k = mate c := by
  fin_cases k <;> apply Fin.ext
  · exact k0_dev2_eq c
  · exact k0_dev3_eq c
  · exact k0_dev4_eq c
  · exact k0_dev5_eq c
  · exact k0_dev6_eq c
  · exact k0_dev7_eq c
  · exact k0_dev8_eq c
  · exact k0_dev9_eq c

/-- Pairing with the mate, as a permutation of the devices. -/
def pairing : Dev nD ≃ Dev nD := ⟨mate, mate, mate_mate, mate_mate⟩

/-! ## The semaphores -/

/-- The barrier, chunk `k` out, chunk `k` in. -/
abbrev Sm : Type := Unit ⊕ (Fin 8 ⊕ Fin 8)
abbrev bar : Sm := .inl ()
abbrev out (k : Fin 8) : Sm := .inr (.inl k)
abbrev inn (k : Fin 8) : Sm := .inr (.inr k)

/-- The transfers' semaphores, which the kernel allocates; and all, with the barrier's, which it does not. -/
abbrev osem : Fin 8 ⊕ Fin 8 → SemLoc sig
  | .inl k => .dma (sendS k)
  | .inr k => .dma (recvS k)
abbrev csem : Sm → SemLoc sig
  | .inl _ => .reg barS
  | .inr x => osem x

/-- The kernel's semaphores are numbered after the staging's: eight for sends, then eight for arrivals. -/
theorem sendS_val (k : Fin 8) : (sendS k).val = 3 + k.val := by revert k; decide
theorem recvS_val (k : Fin 8) : (recvS k).val = 11 + k.val := by revert k; decide

theorem csem_injective : Function.Injective csem := by
  have hs := sendS_val; have hr := recvS_val
  rintro (_ | k | k) (_ | k' | k') h
  · rfl
  · cases h
  · cases h
  · cases h
  · have h' := congrArg Fin.val (SemLoc.dma.inj h); rw [hs, hs] at h'; rw [Fin.ext (Nat.add_left_cancel h')]
  · have h' := congrArg Fin.val (SemLoc.dma.inj h); rw [hs, hr] at h'; omega
  · cases h
  · have h' := congrArg Fin.val (SemLoc.dma.inj h); rw [hr, hs] at h'; omega
  · have h' := congrArg Fin.val (SemLoc.dma.inj h); rw [hr, hr] at h'; rw [Fin.ext (Nat.add_left_cancel h')]

/-- Semaphore `x` of device `c`. -/
abbrev cell (cx : Dev nD × Sm) : GSem nD τ sig := ((cx.1 : Thread nD τ), csem cx.2)

theorem cell_injective : Function.Injective cell := by
  rintro ⟨c, x⟩ ⟨c', x'⟩ h
  have h1 : c = c' := congrArg (fun g : GSem nD τ sig => g.1.1) h
  have h2 : x = x' := csem_injective (congrArg Prod.snd h)
  rw [h1, h2]

/-- Which of the seventeen a semaphore is, if any. -/
def which (s : SemLoc sig) : Option Sm := by
  classical exact if h : ∃ x, csem x = s then some h.choose else none

theorem which_csem (x : Sm) : which (csem x) = some x := by
  have h : ∃ y, csem y = csem x := ⟨x, rfl⟩
  unfold which
  rw [dif_pos h, csem_injective h.choose_spec]

/-- The credit of one chunk's transfer. -/
abbrev N : ℕ := (rSlot 0).view.dmaCredit
theorem N_pos : 0 < N := View.dmaCredit_pos _ (by decide)
theorem credit_eq (k : Fin 8) : (rSlot k).view.dmaCredit = N := rfl

/-! ## Contents -/

/-- The staged blocks of the two operands. -/
def lhs (c : Dev nD) : (cc0_stg0_0 : Ref sig .tc).ty.Contents (Elt F) :=
  (win0_0.blk (0 : Fin 1)).view.read (Elt F) ((s₀ m ρ).mem ((c : Thread nD τ).loc main_arg0))
def rhs (c : Dev nD) : (cc0_stg1_0 : Ref sig .tc).ty.Contents (Elt F) :=
  (win0_1.blk (0 : Fin 1)).view.read (Elt F) ((s₀ m ρ).mem ((c : Thread nD τ).loc main_arg1))

/-- Rows `192 k …` of the left block, and the right block, as loaded. -/
def lhsRows (c : Dev nD) (k : Fin 8) : Vec F S192x768 .f32 := (aM.access (aR k)).read (Elt F) (lhs m ρ c)
def rhsAll (c : Dev nD) : Vec F S768x1536 .f32 := (bM.access bR).read (Elt F) (rhs m ρ c)

/-- Chunk `k` of device `c`'s own product; as sent; and with the mate's added. -/
def part (c : Dev nD) (k : Fin 8) : Vec F S192x1536 .f32 := k0_pay2 (lhsRows m ρ c k) (rhsAll m ρ c)
def sent (c : Dev nD) (k : Fin 8) : Vec F S1x192x1536 .bf16 := k0_pay3 (lhsRows m ρ c k) (rhsAll m ρ c)
def total (c : Dev nD) (k : Fin 8) : Vec F S192x1536 .f32 := k0_pay1 (part m ρ c k) (sent m ρ (mate c) k)

/-- Device `c` holds the rectangle `r` of `M`, at contents `X`. -/
def holds {sp : Space} {s : Shape} {e : EltTy} (c : Dev nD) (M : Memref sig .tc sp s e) (r : Rect s) (X : r.shape.Idx → Elt F e) : sProp 𝕄 :=
  iprop(∃ f : Buf (Elt F) ((M.access r).loc (c : Thread nD τ)), ⌜(M.access r).read (Elt F) f = X⌝
    ∗ ((M.access r).loc (c : Thread nD τ) ↦[(M.access r).set]{fullShare} f))
/-- The same, at some contents. -/
def holdsAny {sp : Space} {s : Shape} {e : EltTy} (c : Dev nD) (M : Memref sig .tc sp s e) (r : Rect s) : sProp 𝕄 :=
  iprop(∃ f : Buf (Elt F) ((M.access r).loc (c : Thread nD τ)), ((M.access r).loc (c : Thread nD τ) ↦[(M.access r).set]{fullShare} f))

omit [FloatOps F] in
instance holds_storable {sp : Space} {s : Shape} {e : EltTy} (c : Dev nD) (M : Memref sig .tc sp s e) (r : Rect s) (X : r.shape.Idx → Elt F e) :
    BI.Storable (upEmb : UEmb _ 𝕄) (holds c M r X) := by unfold holds; infer_instance
omit [FloatOps F] in
instance holdsAny_storable {sp : Space} {s : Shape} {e : EltTy} (c : Dev nD) (M : Memref sig .tc sp s e) (r : Rect s) :
    BI.Storable (upEmb : UEmb _ 𝕄) (holdsAny (F := F) c M r) := by unfold holdsAny; infer_instance

/-! ## The schedule -/

/-- How much the one payment to semaphore `x` is. -/
def due : Sm → ℕ
  | .inl _ => 1
  | .inr _ => N

/-- What the payment to semaphore `x` of device `c` hands over: at the barrier, the mate's landing slots; for a chunk
    gone out, its outgoing slot back; for a chunk come in, its landing slot holding what the mate sent. -/
def hands (c : Dev nD) : Sm → sProp 𝕄
  | .inl _ => bigSep Finset.univ fun k : Fin 8 => holdsAny (mate c) rM (tR k)
  | .inr (.inl k) => holds c sM (tR k) (sent m ρ c k)
  | .inr (.inr k) => holds c rM (tR k) (sent m ρ (mate c) k)

instance hands_storable (c : Dev nD) (x : Sm) : BI.Storable (upEmb : UEmb _ 𝕄) (hands m ρ c x) := by
  rcases x with _ | _ | _ <;> dsimp only [hands] <;> infer_instance

/-- One payment to each of the seventeen semaphores of each device, in round 0, and no other. -/
def sched : Rounds.Schedule (GSem nD τ sig) Unit 𝕄 where
  duties g r := if r = 0 ∧ g.1.2 = .tc ∧ (which g.2).isSome then {()} else ∅
  unitless _ := False
  amount g _ _ := ((which g.2).map due).getD 1
  payload g _ _ := ((which g.2).map (hands m ρ g.1.1)).getD iprop(emp)
  amount_pos g _ _ _ := by
    rcases which g.2 with _ | _ | x
    · exact Nat.one_pos
    · exact Nat.one_pos
    · exact N_pos

instance sched_storable (g : GSem nD τ sig) (r : ℕ) (d : Unit) : BI.Storable (upEmb : UEmb _ 𝕄) ((sched (F := F) m ρ).payload g r d) := by
  show BI.Storable upEmb (((which g.2).map (hands m ρ g.1.1)).getD iprop(emp))
  rcases which g.2 with _ | x <;> simp only [Option.map_none, Option.map_some, Option.getD_none, Option.getD_some] <;> infer_instance

variable (c : Dev nD) (x : Sm)

theorem duties_cell : (sched (F := F) m ρ).duties (cell (c, x)) 0 = {()} := by
  dsimp only [sched]; rw [which_csem]; exact if_pos ⟨rfl, rfl, rfl⟩
theorem duties_later (g : GSem nD τ sig) : ∀ r, 1 ≤ r → (sched (F := F) m ρ).duties g r = ∅ :=
  fun r hr => by dsimp only [sched]; exact if_neg fun h => by omega
theorem amount_cell (u : Unit) : (sched (F := F) m ρ).amount (cell (c, x)) 0 u = due x := by
  dsimp only [sched]; rw [which_csem]; rfl
theorem expect_cell : (sched (F := F) m ρ).expect (cell (c, x)) 0 = due x := by
  unfold Schedule.expect Schedule.amountOf; rw [duties_cell, Finset.sum_singleton, amount_cell]
theorem payload_cell (u : Unit) : (sched (F := F) m ρ).payload (cell (c, x)) 0 u = hands m ρ c x := by
  dsimp only [sched]; rw [which_csem]; rfl
theorem rest_cell : bigSep ((sched (F := F) m ρ).duties (cell (c, x)) 0 \ ∅) (fun u => (sched (F := F) m ρ).payload (cell (c, x)) 0 u)
    = hands m ρ c x := by
  rw [Finset.sdiff_empty, duties_cell, bigSep_singleton, payload_cell]

/-! ## What each device owes, and the levels -/

/-- The chunks listed, owed to the mate. -/
def owed (c : Dev nD) : List (Fin 8) → CellTallies nD τ sig Unit
  | [] => 0
  | k :: l => owed c l + tallyAt (cell (mate c, inn k)) () N

/-- At launch a device owes its mate every chunk and the barrier's signal. -/
def O₀ (c : Dev nD) : CellTallies nD τ sig Unit := owed c order + tallyAt (cell (mate c, bar)) () 1

def L (g : GSem nD τ sig) : Finset Unit := if g.1.2 = .tc then {()} else ∅
/-- The barrier is below the chunks' arrival; everything else is below both. -/
def level : Sm → ℕ
  | .inl _ => 1
  | .inr (.inl _) => 0
  | .inr (.inr _) => 2
def lv (g : GSem nD τ sig) (_ : Unit) : ℕ := ((which g.2).map level).getD 0

theorem L_of_ne (g : GSem nD τ sig) (h : g.1.2 ≠ .tc) : L g = ∅ := if_neg h
theorem L_tc (c : Dev nD) (sm : SemLoc sig) : L ((c : Thread nD τ), sm) = {()} := if_pos rfl
theorem mem_L (cx : Dev nD × Sm) (u : Unit) : u ∈ L (cell cx) := by rw [L_tc]; exact Finset.mem_singleton_self _
theorem lv_cell (cx : Dev nD × Sm) (u : Unit) : lv (cell cx) u = level cx.2 := by unfold lv; rw [which_csem]; rfl

theorem owed_pos (l : List (Fin 8)) {g : GSem nD τ sig} {u : Unit} (h : 0 < owed c l g u) : ∃ k, g = cell (mate c, inn k) := by
  induction l with
  | nil => exact absurd h (Nat.lt_irrefl 0)
  | cons k l ih =>
    unfold owed at h
    rw [Pi.add_apply, Finsupp.add_apply, tallyAt_apply] at h
    by_cases hg : g = cell (mate c, inn k) ∧ u = ()
    · exact ⟨k, hg.1⟩
    · rw [if_neg hg, Nat.add_zero] at h; exact ih h

theorem O₀_pos {g : GSem nD τ sig} {u : Unit} (h : 0 < O₀ c g u) : (∃ k, g = cell (mate c, inn k)) ∨ g = cell (mate c, bar) := by
  unfold O₀ at h
  rw [Pi.add_apply, Finsupp.add_apply, tallyAt_apply] at h
  by_cases hg : g = cell (mate c, bar) ∧ u = ()
  · exact .inr hg.1
  · rw [if_neg hg, Nat.add_zero] at h; exact .inl (owed_pos c order h)

/-- Awaiting a semaphore below everything owed is allowed, whatever is owed at the start or the end. -/
theorem mayWait_low (s : SemLoc sig) (hs : ∀ c : Dev nD, lv ((c : Thread nD τ), s) () = 0) (O : CellTallies nD τ sig Unit) (hO : O = O₀ c ∨ O = 0) :
    (levAts L lv : sProp 𝕄) ⊢ MayWait (c : Thread nD τ) s () O := by
  rcases hO with rfl | rfl
  · refine MayOwe.of_cut (L := L) (lev := lv) 0 (fun p hp => by rw [Finset.mem_singleton.mp hp, L_tc]; exact Finset.mem_singleton_self _)
      (fun g u hg => by rcases O₀_pos c hg with ⟨k, rfl⟩ | rfl <;> exact mem_L _ u)
      (fun p hp => by rw [Finset.mem_singleton.mp hp]; exact (hs c).le)
      (fun g u hg => by
        rcases O₀_pos c hg with ⟨k, rfl⟩ | rfl
        · rw [lv_cell]; exact Nat.succ_pos _
        · rw [lv_cell]; exact Nat.lt_succ_self _)
  · rw [MayWait_zero]; iintro -; iempintro

/-- Awaiting the barrier is allowed while chunks are owed. -/
theorem mayWait_bar : (levAts L lv : sProp 𝕄) ⊢ MayWait (c : Thread nD τ) (csem bar) () (owed c order) :=
  MayOwe.of_cut (L := L) (lev := lv) 1 (fun p hp => by rw [Finset.mem_singleton.mp hp, L_tc]; exact Finset.mem_singleton_self _)
    (fun g u hg => by obtain ⟨k, rfl⟩ := owed_pos c order hg; exact mem_L _ u)
    (fun p hp => by rw [Finset.mem_singleton.mp hp]; exact (lv_cell (c, bar) ()).le)
    (fun g u hg => by obtain ⟨k, rfl⟩ := owed_pos c order hg; rw [lv_cell]; exact Nat.lt_succ_self _)

end Cert.Chunks

end
-- ==== Proof.StepRules.lean ====
/-
# What each step does

One rule for the first loop's step, one for the second's, one for running the steps in order; each over the chunk's
number.
-/
module

public import proofs.«01_k».proof.Proof.Protocol

@[expose] public section

noncomputable section

namespace Cert.Chunks

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- One of a family of assertions held together. -/
theorem one_of {I : Type} [DecidableEq I] {S : Finset I} {i : I} (hi : i ∈ S) (Φ : I → sProp 𝕄) : (bigSep S Φ : sProp 𝕄) ⊢ Φ i := bigSep_elim hi
theorem split_off {I : Type} [DecidableEq I] {S : Finset I} {i : I} (hi : i ∉ S) (Φ : I → sProp 𝕄) :
    (bigSep (insert i S) Φ : sProp 𝕄) = iprop(Φ i ∗ bigSep S Φ) := bigSep_insert hi

/-! ## Every cell's record -/

/-- Every semaphore is under the schedule, and in round 0 or later. -/
def records (K : Dev nD × Sm → ℕ) : sProp 𝕄 :=
  iprop((bigSep Finset.univ fun cx : Dev nD × Sm => cellInv ER (sched m ρ) (K cx) (cell cx))
    ∗ bigSep Finset.univ fun cx : Dev nD × Sm => reached ER (cell cx) 0)
instance records_persistent (K : Dev nD × Sm → ℕ) : BI.Persistent (records m ρ K) := by unfold records; infer_instance

variable (K : Dev nD × Sm → ℕ)

theorem inv_at (cx : Dev nD × Sm) : records m ρ K ⊢ cellInv ER (sched m ρ) (K cx) (cell cx) := by
  unfold records
  iintro ⟨HI, -⟩
  iapply (one_of (Finset.mem_univ cx) (fun cx : Dev nD × Sm => cellInv ER (sched m ρ) (K cx) (cell cx))); iexact HI
theorem reached_at (cx : Dev nD × Sm) : records m ρ K ⊢ reached ER (cell cx) 0 := by
  unfold records
  iintro ⟨-, HR⟩
  iapply (one_of (Finset.mem_univ cx) (fun cx : Dev nD × Sm => (reached ER (cell cx) 0 : sProp 𝕄))); iexact HR

/-! ## A slot as a matrix and as a slab -/

/-- Slot `k` of a memref of slots, as the transfers name it. -/
abbrev slot (M : Memref sig .tc .vmem S8x192x1536 .bf16) (k : Fin 8) : Memref sig .tc .vmem S192x1536 .bf16 :=
  (M.slice (tR k) (fun _ => rfl)).squeeze S192x1536 squeezes_S1x192x1536_S192x1536

theorem slot_set (M : Memref sig .tc .vmem S8x192x1536 .bf16) (k : Fin 8) : (slot M k).view.set = (M.access (tR k)).set :=
  View.set_reshape _ _

/-- A slot copied matrix by matrix reads the same slab by slab. -/
theorem slot_copy (M M' : Memref sig .tc .vmem S8x192x1536 .bf16) (k : Fin 8) (fd : M'.view.ty.Contents (Elt F)) (fs : M.view.ty.Contents (Elt F)) :
    (M'.access (tR k)).read (Elt F) ((slot M' k).view.write (Elt F) fd ((slot M k).view.read (Elt F) fs) Finset.univ)
      = (M.access (tR k)).read (Elt F) fs := by
  have h := View.read_write_univ (v := (slot M' k).view) fd ((slot M k).view.read (Elt F) fs)
  funext j
  have hj := congrFun h ((Shape.reshapeEquiv squeezes_S1x192x1536_S192x1536.numel_eq).symm j)
  have e1 (M : Memref sig .tc .vmem S8x192x1536 .bf16) (f : M.view.ty.Contents (Elt F)) (i : S192x1536.Idx) : (slot M k).view.read (Elt F) f i
      = (M.access (tR k)).read (Elt F) f (Shape.reshapeEquiv squeezes_S1x192x1536_S192x1536.numel_eq i) := rfl
  rw [e1 M', e1 M, Equiv.apply_symm_apply] at hj
  exact hj

/-! ## The two loops' steps -/

/-- A staging buffer of device `c` at contents `X`. -/
abbrev at_ (c : Dev nD) (b : Ref sig .tc) (X : b.ty.Contents (Elt F)) : sProp 𝕄 :=
  ((c : Thread nD τ).loc b) ↦{fullShare} X

/-- What the first loop's step for chunk `k` takes, and what it leaves. -/
def sendIn (c : Dev nD) (k : Fin 8) : sProp 𝕄 :=
  iprop(holdsAny c oM (oR k) ∗ holdsAny c sM (tR k) ∗ holdsAny (mate c) rM (tR k)
    ∗ dutyTok ER (cell (c, out k)) 0 () ∗ dutyTok ER (cell (mate c, inn k)) 0 ())
def sendOut (c : Dev nD) (k : Fin 8) : sProp 𝕄 :=
  iprop(holds c oM (oR k) (part m ρ c k) ∗ cred (tallyAt (cell (c, out k)) () N))
/-- What all the first loop's steps share, while the chunks listed are still owed. -/
def sendInv (c : Dev nD) (W : Waits sig Unit) (l : List (Fin 8)) : sProp 𝕄 :=
  iprop(records m ρ K ∗ at_ c cc0_stg0_0 (lhs m ρ c) ∗ at_ c cc0_stg1_0 (rhs m ρ c) ∗ owes (c : Thread nD τ) (owed c l) W)

/-- The rectangle `r` of `M` just written with `X` is held at `X`. -/
theorem holds_written {sp : Space} {s : Shape} {e : EltTy} (c : Dev nD) (M : Memref sig .tc sp s e) (r : Rect s) (f : M.view.ty.Contents (Elt F)) (X : r.shape.Idx → Elt F e) :
    ((M.access r).loc (c : Thread nD τ) ↦[(M.access r).set]{fullShare} ((M.access r).write (Elt F) f X Finset.univ) : sProp 𝕄) ⊢ holds c M r X := by
  unfold holds
  iintro H
  iexists ((M.access r).write (Elt F) f X Finset.univ)
  isplitr
  · ipureintro; exact View.read_write_univ _ _
  · iexact H

/-- Sending slot `k` to the mate: the departure will give it back, the arrival will fill the mate's slot. -/
theorem wp_sendChunk (c : Dev nD) (k : Fin 8) (fs : Buf (Elt F) ((sM.access (tR k)).loc (c : Thread nD τ))) (fr : Buf (Elt F) ((rM.access (tR k)).loc (mate c : Thread nD τ)))
    (hfs : (sM.access (tR k)).read (Elt F) fs = sent m ρ c k) (O : CellTallies nD τ sig Unit) (W : Waits sig Unit)
    {hsc : (rSlot k : Memref sig (mate c : Thread nD τ).2.kind .vmem S192x1536 .bf16).view.ref.isScScratch = false}
    {hsrc : (sSlot k).view.WordExact} {hdst : (rSlot k).view.WordExact}
    {hsem : DmaTarget.Typed .vmem (.dma (recvS k)) (.remote (mate c : Thread nD τ) (rSlot k) (.dma (sendS k)) hsc)}
    {α : Type} {Q : α → sProp 𝕄} {p : PUnit → Prog (TpuEff nD τ sig (Elt F) Λ₀ .tc) α} :
    iprop(records m ρ K ∗ ((sM.access (tR k)).loc (c : Thread nD τ) ↦[(sM.access (tR k)).set]{fullShare} fs)
        ∗ ((rM.access (tR k)).loc (mate c : Thread nD τ) ↦[(rM.access (tR k)).set]{fullShare} fr)
        ∗ owes (c : Thread nD τ) (O + tallyAt (cell (mate c, inn k)) () N) W ∗ dutyTok ER (cell (c, out k)) 0 () ∗ dutyTok ER (cell (mate c, inn k)) 0 ())
      ⊢ iprop(((cred (tallyAt (cell (c, out k)) () N) ∗ owes (c : Thread nD τ) O W) -∗ wp frame (wpE (defs₀ (F := F)) 𝒱₀ (c : Thread nD τ) none) Set.univ (p ⟨⟩) Q)
          -∗ wp frame (wpE (defs₀ (F := F)) 𝒱₀ (c : Thread nD τ) none) Set.univ
              (.op (.enqueueDma (sSlot k) (.remote (mate c : Thread nD τ) (rSlot k) (.dma (sendS k)) hsc) (.dma (recvS k)) hsrc hdst hsem) p) Q) := by
  have h := Rounds.wp_send_pointsTo (defs := defs₀ (F := F)) (Γ := .nil) (hsrc := hsrc) (hdst := hdst) (hsem := hsem) (k := p) (Q := Q) 𝒱₀ ER (sched m ρ) (c : Thread nD τ) none (κ₁ := K (c, out k)) (κ₂ := K (mate c, inn k))
    (r₁ := 0) (r₂ := 0) (d₁ := ()) (d₂ := ()) (fd := fr) (fs := fs) (q := fullShare) (Es := Set.univ)
    (by rw [duties_cell m ρ c (out k)]; exact Finset.mem_singleton_self _) (by rw [duties_cell m ρ (mate c) (inn k)]; exact Finset.mem_singleton_self _)
    () () N rfl (amount_cell m ρ c (out k) ()) (amount_cell m ρ (mate c) (inn k) ()) O rfl (W := W)
    (by
      rw [payload_cell m ρ c (out k)]; unfold hands holds
      rw [slot_set sM k]
      iintro H; iexists fs; isplitr
      · ipureintro; exact hfs
      · iexact H)
    (by
      rw [payload_cell m ρ (mate c) (inn k)]; unfold hands holds
      rw [slot_set rM k, mate_mate]
      iintro H; iexists _; isplitr
      · ipureintro; exact (slot_copy sM rM k fr fs).trans hfs
      · iexact H)
  rw [slot_set sM k, slot_set rM k] at h
  iintro ⟨#HR, Hs, Hr, HO, Ht1, Ht2⟩
  iapply h
  isplitr; · iapply (inv_at m ρ K (c, out k)); iexact HR
  isplitr; · iapply (inv_at m ρ K (mate c, inn k)); iexact HR
  isplitl [Hs]; · iexact Hs
  isplitl [Hr]; · iexact Hr
  isplitl [HO]; · iexact HO
  isplitl [Ht1]; · iexact Ht1
  isplitr; · iapply (reached_at m ρ K (c, out k)); iexact HR
  isplitl [Ht2]; · iexact Ht2
  iapply (reached_at m ρ K (mate c, inn k)); iexact HR

theorem wp_mulSend (c n : Dev nD) (hn : n = mate c) (W : Waits sig Unit) (k : Fin 8) (l : List (Fin 8)) (Kt : PUnit → sProp 𝕄) :
    iprop((sendIn c k ∗ sendInv m ρ K c W (k :: l)) ∗ ((sendOut m ρ c k ∗ sendInv m ρ K c W l) -∗ Kt ⟨⟩))
      ⊢ wp frame (wpE (defs₀ (F := F)) 𝒱₀ (c : Thread nD τ) none) Set.univ (mulSend k n) Kt := by
  subst hn
  unfold mulSend sendIn sendInv holdsAny
  simp only [Prog.lift, Prog.bind_op, Prog.bind_ret]
  iintro ⟨⟨⟨⟨%fo, Ho⟩, ⟨%fs, Hs⟩, ⟨%fr, Hr⟩, Ht1, Ht2⟩, #HR, Ha, Hb, HO⟩, Hk⟩
  iapply (wp_load_rect 𝒱₀ (c : Thread nD τ) none Set.univ (m := aM) (r := aR k) (Finset.subset_univ _)) $$ Ha; iintro Ha
  iapply (wp_load_rect 𝒱₀ (c : Thread nD τ) none Set.univ (m := bM) (r := bR) (Finset.subset_univ _)) $$ Hb; iintro Hb
  iapply (wp_load_rect 𝒱₀ (c : Thread nD τ) none Set.univ (m := oM) (r := oR k) (subset_refl _)) $$ Ho; iintro Ho
  iapply (wp_store 𝒱₀ (c : Thread nD τ) none Set.univ (m := oM) (r := oR k) (Mk := Finset.univ) (S := (oM.access (oR k)).set) (by rw [View.setOn_univ])) $$ Ho; iintro Ho
  iapply (wp_load_rect 𝒱₀ (c : Thread nD τ) none Set.univ (m := sM) (r := tR k) (subset_refl _)) $$ Hs; iintro Hs
  iapply (wp_store 𝒱₀ (c : Thread nD τ) none Set.univ (m := sM) (r := tR k) (Mk := Finset.univ) (S := (sM.access (tR k)).set) (by rw [View.setOn_univ])) $$ Hs; iintro Hs
  iapply (wp_sendChunk m ρ K c k ((sM.access (tR k)).write (Elt F) fs (sent m ρ c k) Finset.univ) fr (View.read_write_univ _ _) (owed c l) W)
    $$ [Hs Hr HO Ht1 Ht2]
  · isplitr; · iexact HR
    isplitl [Hs]; · iexact Hs
    isplitl [Hr]; · iexact Hr
    isplitl [HO]; · iexact HO
    isplitl [Ht1] <;> iassumption
  iintro ⟨Hc, HO⟩
  rw [wp_ret]; imodintro
  iapply Hk
  unfold sendOut
  isplitl [Ho Hc]
  · isplitl [Ho]
    · iapply (holds_written c oM (oR k)); iexact Ho
    iexact Hc
  isplitr; · iexact HR
  isplitl [Ha]; · iexact Ha
  isplitl [Hb] <;> iassumption

/-- What the second loop's step for chunk `k` takes, and what it leaves. -/
def addIn (c : Dev nD) (k : Fin 8) : sProp 𝕄 :=
  iprop(holds c oM (oR k) (part m ρ c k) ∗ cred (tallyAt (cell (c, out k)) () N) ∗ cred (tallyAt (cell (c, inn k)) () N)
    ∗ atPos ER (cell (c, out k)) 0 ∅ 0 ∗ atPos ER (cell (c, inn k)) 0 ∅ 0)
def addOut (c : Dev nD) (k : Fin 8) : sProp 𝕄 :=
  iprop(holds c oM (oR k) (total m ρ c k) ∗ holds c sM (tR k) (sent m ρ c k) ∗ holds c rM (tR k) (sent m ρ (mate c) k)
    ∗ semVal (cell (c, out k)) 0 ∗ semVal (cell (c, inn k)) 0)
/-- What all the second loop's steps share. -/
def addInv (c : Dev nD) : sProp 𝕄 := iprop(records m ρ K ∗ ∃ W, owes (c : Thread nD τ) 0 W)

/-- A transfer's semaphore, awaited: its payload, and its counter at zero for good. -/
theorem wp_awaitChunk (c : Dev nD) (x : Fin 8 ⊕ Fin 8) (q : DmaSem sig) (hq : osem x = .dma q) {s e sp sp'} {src : Memref sig .tc sp s e} {dst : Memref sig .tc sp' s e}
    {hs : src.view.WordExact} {hd : dst.view.WordExact} (hN : dst.view.dmaCredit = N)
    {α : Type} {Q : α → sProp 𝕄} {p : PUnit → Prog (TpuEff nD τ sig (Elt F) Λ₀ .tc) α} (W : Waits sig Unit) :
    iprop(records m ρ K ∗ cred (tallyAt (cell (c, .inr x)) () N) ∗ atPos ER (cell (c, .inr x)) 0 ∅ 0 ∗ owes (c : Thread nD τ) 0 W)
      ⊢ iprop((((∃ W, owes (c : Thread nD τ) 0 W) ∗ semVal (cell (c, .inr x)) 0 ∗ hands m ρ c (.inr x))
            -∗ wp frame (wpE (defs₀ (F := F)) 𝒱₀ (c : Thread nD τ) none) Set.univ (p ⟨⟩) Q)
          -∗ wp frame (wpE (defs₀ (F := F)) 𝒱₀ (c : Thread nD τ) none) Set.univ (.op (.waitDma2 q src dst hs hd) p) Q) := by
  have hcell : cell (c, .inr x) = ((c : Thread nD τ), SemLoc.dma q) := by rw [← hq]
  have hrest := rest_cell m ρ c (.inr x)
  have hexp := expect_cell m ρ c (.inr x)
  have hinv := inv_at m ρ K (c, .inr x)
  rw [hcell] at hrest hexp hinv ⊢
  iintro ⟨#HR, Hc, Hat, HO⟩ Hk
  iapply (Rounds.wp_wait_rest_token 𝒱₀ ER (sched m ρ) (c : Thread nD τ) none (κ := K (c, .inr x))
      (wpE_waitDma2_eq 𝒱₀ (c : Thread nD τ) none Set.univ) (Set.mem_univ _) () (O := 0) (W := W) (R := 0) (m := 0) (T := ∅)
      (by rw [Nat.zero_add, hexp]; exact hN)) $$ [Hc HO Hat]
  · isplitr; · iapply hinv; iexact HR
    isplitl [Hc]; · rw [hN]; iexact Hc
    isplitl [HO]; · iexact HO
    isplitr; · rw [MayWait_zero]; iempintro
    iexact Hat
  iintro ⟨HO, Hat, -, Hpay⟩
  ihave Hp := (Entails.of_eq hrest) $$ Hpay
  imod (Rounds.cell_close ER (sched m ρ) (Set.mem_univ (K (c, .inr x))) (fun h => h) (R := 0 + 1) (duties_later m ρ ((c : Thread nD τ), SemLoc.dma q))) $$ [Hat] with Hz
  · isplitr; · iapply hinv; iexact HR
    iexact Hat
  iapply Hk
  isplitl [HO]; · iexists _; iexact HO
  isplitl [Hz] <;> iassumption

set_option maxHeartbeats 1000000 in
theorem wp_awaitAdd (c : Dev nD) (k : Fin 8) (Kt : PUnit → sProp 𝕄) :
    iprop((addIn m ρ c k ∗ addInv m ρ K c) ∗ ((addOut m ρ c k ∗ addInv m ρ K c) -∗ Kt ⟨⟩))
      ⊢ wp frame (wpE (defs₀ (F := F)) 𝒱₀ (c : Thread nD τ) none) Set.univ (awaitAdd k) Kt := by
  unfold awaitAdd addIn addInv
  simp only [Prog.lift, Prog.bind_op, Prog.bind_ret]
  unfold holds
  iintro ⟨⟨⟨⟨%fo, %hfo, Ho⟩, Hc1, Hc2, Ha1, Ha2⟩, #HR, ⟨%W, HO⟩⟩, Hk⟩
  iapply (wp_awaitChunk m ρ K c (.inl k) (sendS k) rfl (src := rSlot k) (dst := sSlot k) (credit_eq k) W) $$ [Hc1 Ha1 HO]
  · isplitr; · iexact HR
    isplitl [Hc1]; · iexact Hc1
    isplitl [Ha1] <;> iassumption
  iintro ⟨⟨%W1, HO⟩, Hz1, Hs⟩
  iapply (wp_awaitChunk m ρ K c (.inr k) (recvS k) rfl (src := sSlot k) (dst := rSlot k) (credit_eq k) W1) $$ [Hc2 Ha2 HO]
  · isplitr; · iexact HR
    isplitl [Hc2]; · iexact Hc2
    isplitl [Ha2] <;> iassumption
  iintro ⟨HO, Hz2, Hr⟩
  unfold hands holds
  icases Hr with ⟨%fr, %hfr, Hr⟩
  iapply (wp_load_rect 𝒱₀ (c : Thread nD τ) none Set.univ (m := oM) (r := oR k) (subset_refl _)) $$ Ho; iintro Ho
  iapply (wp_load_rect 𝒱₀ (c : Thread nD τ) none Set.univ (m := rM) (r := tR k) (subset_refl _)) $$ Hr; iintro Hr
  iapply (wp_load_rect 𝒱₀ (c : Thread nD τ) none Set.univ (m := oM) (r := oR k) (subset_refl _)) $$ Ho; iintro Ho
  iapply (wp_store 𝒱₀ (c : Thread nD τ) none Set.univ (m := oM) (r := oR k) (Mk := Finset.univ) (S := (oM.access (oR k)).set) (by rw [View.setOn_univ])) $$ Ho; iintro Ho
  rw [hfo, hfr, wp_ret]; imodintro
  iapply Hk
  unfold addOut
  isplitr [HO]
  · isplitl [Ho]
    · iapply (holds_written c oM (oR k)); iexact Ho
    isplitl [Hs]; · unfold holds; iexact Hs
    isplitl [Hr]
    · unfold holds; iexists fr; isplitr
      · ipureintro; exact hfr
      · iexact Hr
    isplitl [Hz1] <;> iassumption
  isplitr; · iexact HR
  iexact HO

/-! ## The steps in order -/

/-- Steps `f k` that each turn `A k` into `B k`, with `I` of the chunks still to come going along, turn all the `A`
    into all the `B`. -/
theorem wp_inOrder (c : Dev nD) (f : Fin 8 → Prog (TpuEff nD τ sig (Elt F) Λ₀ .tc) PUnit) (p : Prog (TpuEff nD τ sig (Elt F) Λ₀ .tc) PUnit)
    (A B : Fin 8 → sProp 𝕄) (I : List (Fin 8) → sProp 𝕄)
    (hf : ∀ k l (Kt : PUnit → sProp 𝕄), iprop((A k ∗ I (k :: l)) ∗ ((B k ∗ I l) -∗ Kt ⟨⟩))
      ⊢ wp frame (wpE (defs₀ (F := F)) 𝒱₀ (c : Thread nD τ) none) Set.univ (f k) Kt)
    (Kt : PUnit → sProp 𝕄) (l : List (Fin 8)) (hl : l.Nodup) :
    iprop((bigSep l.toFinset A ∗ I l) ∗ ((bigSep l.toFinset B ∗ I []) -∗ wp frame (wpE (defs₀ (F := F)) 𝒱₀ (c : Thread nD τ) none) Set.univ p Kt))
      ⊢ wp frame (wpE (defs₀ (F := F)) 𝒱₀ (c : Thread nD τ) none) Set.univ (inOrder f p l) Kt := by
  induction l with
  | nil =>
    rw [List.toFinset_nil, bigSep_empty, bigSep_empty]
    iintro ⟨H, Hk⟩
    iapply Hk; iexact H
  | cons k l ih =>
    obtain ⟨hk, hl⟩ := List.nodup_cons.mp hl
    have hk' : k ∉ l.toFinset := fun h => hk (List.mem_toFinset.mp h)
    rw [List.toFinset_cons, split_off hk', split_off hk']
    show _ ⊢ wp frame (wpE (defs₀ (F := F)) 𝒱₀ (c : Thread nD τ) none) Set.univ (f k >>= fun _ => inOrder f p l) Kt
    rw [wp_bind]
    iintro ⟨⟨⟨HA, HAs⟩, HI⟩, Hk⟩
    iapply (hf k l)
    isplitl [HA HI]
    · isplitl [HA] <;> iassumption
    iintro ⟨HB, HI⟩
    iapply (ih hl)
    isplitl [HAs HI]
    · isplitl [HAs] <;> iassumption
    iintro ⟨HBs, HI⟩
    iapply Hk
    isplitr [HI]
    · isplitl [HB] <;> iassumption
    iexact HI

theorem order_nodup : order.Nodup := by decide
theorem order_all : order.toFinset = Finset.univ := by decide

end Cert.Chunks

end
-- ==== Proof.Tiles.lean ====
/-
# A buffer held by its eight pieces

The result's eight bands of rows, and a scratch's eight slots, each tile their buffer. Held whole it may be held piece
by piece, and held piece by piece at known contents it may be held whole at the contents glued from them.
-/
module

public import proofs.«01_k».proof.Proof.StepRules

@[expose] public section

noncomputable section

namespace Cert.Chunks

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Eight rectangles that meet nowhere and together cover the shape. -/
structure Tiling {s : Shape} (R : Fin 8 → Rect s) : Prop where
  cover : ∀ i, ∃ k, i ∈ (R k).set
  apart : ∀ k k' i, i ∈ (R k).set → i ∈ (R k').set → k = k'

variable {s : Shape} {R : Fin 8 → Rect s}

theorem Tiling.place (h : Tiling R) (i : s.Idx) : ∃ k, ∃ j, (R k).emb j = i := by
  obtain ⟨k, hk⟩ := h.cover i
  rw [← Rect.map_emb_univ, Finset.mem_map] at hk
  obtain ⟨j, -, hj⟩ := hk
  exact ⟨k, j, hj⟩

theorem emb_mem (r : Rect s) (j : r.shape.Idx) : r.emb j ∈ r.set := by
  rw [← Rect.map_emb_univ]; exact Finset.mem_map_of_mem _ (Finset.mem_univ j)

/-- The contents whose piece `k` is `w k`. -/
def glue {α : Type} (h : Tiling R) (w : (k : Fin 8) → (R k).shape.Idx → α) (i : s.Idx) : α :=
  w (h.place i).choose (h.place i).choose_spec.choose

theorem glue_emb {α : Type} (h : Tiling R) (w : (k : Fin 8) → (R k).shape.Idx → α) (k : Fin 8) (j : (R k).shape.Idx) :
    glue h w ((R k).emb j) = w k j := by
  unfold glue
  have hs := (h.place ((R k).emb j)).choose_spec.choose_spec
  generalize (h.place ((R k).emb j)).choose_spec.choose = j' at hs ⊢
  revert j' hs
  generalize (h.place ((R k).emb j)).choose = k'
  intro j' hs
  have hk : k' = k := h.apart k' k ((R k).emb j) (hs ▸ emb_mem _ j') (emb_mem _ j)
  subst hk
  rw [(R k').emb.injective hs]

variable {b : Ref sig .tc} {R : Fin 8 → Rect b.ty.shape} (h : Tiling R) (c : Dev nD)

theorem piece_set (b : Ref sig .tc) (r : Rect b.ty.shape) : ((Memref.whole b).access r).set = r.set := View.set_slice_whole b r

include h in
/-- Held whole is held piece by piece. -/
theorem whole_pieces (f : Buf (Elt F) ((c : Thread nD τ).loc b)) :
    (((c : Thread nD τ).loc b) ↦{fullShare} f : sProp 𝕄)
      = bigSep Finset.univ fun k : Fin 8 => (((c : Thread nD τ).loc b) ↦[(R k).set]{fullShare} f : sProp 𝕄) := by
  classical
  have hU : (Finset.univ : Finset (Idx ((c : Thread nD τ).loc b))) = Finset.univ.biUnion fun k : Fin 8 => (R k).set := by
    ext i
    obtain ⟨k, hk⟩ := h.cover i
    exact ⟨fun _ => Finset.mem_biUnion.mpr ⟨k, Finset.mem_univ k, hk⟩, fun _ => Finset.mem_univ _⟩
  rw [hU]
  exact pointsTo_biUnion (ℓ := (c : Thread nD τ).loc b) Finset.univ (fun k : Fin 8 => (R k).set)
    (fun k _ k' _ hne => Finset.disjoint_left.mpr fun i hi hi' => hne (h.apart k k' i hi hi'))

include h in
/-- Held whole at anything, each piece is held at something. -/
theorem cut_up (f : Buf (Elt F) ((c : Thread nD τ).loc b)) :
    (((c : Thread nD τ).loc b) ↦{fullShare} f : sProp 𝕄) ⊢ bigSep Finset.univ fun k : Fin 8 => holdsAny c (Memref.whole b) (R k) := by
  rw [whole_pieces h c f]
  refine bigSep_mono fun k _ => show (_ : sProp 𝕄) ⊢ _ from ?_
  unfold holdsAny
  rw [piece_set]
  iintro H; iexists f; iexact H

/-- Each piece held at known contents, the whole is held at the contents glued from them. -/
theorem glued (w : (k : Fin 8) → (R k).shape.Idx → Elt F b.ty.elt) :
    (bigSep Finset.univ fun k : Fin 8 => holds c (Memref.whole b) (R k) (w k) : sProp 𝕄)
      ⊢ (((c : Thread nD τ).loc b) ↦{fullShare} glue h w) := by
  rw [whole_pieces h c (glue h w)]
  refine bigSep_mono fun k _ => show (_ : sProp 𝕄) ⊢ _ from ?_
  unfold holds
  rw [piece_set]
  iintro ⟨%f, %hf, H⟩
  have e : ∀ i ∈ (R k).set, f i = glue h w i := by
    intro i hi
    rw [← Rect.map_emb_univ, Finset.mem_map] at hi
    obtain ⟨j, -, rfl⟩ := hi
    rw [glue_emb, ← hf]; rfl
  iapply (Entails.of_eq (pointsTo_congr e)); iexact H

/-! ## The two tilings -/

/-- The bands of 192 rows tile the result. -/
theorem oR_tiling : Tiling oR where
  cover i := by
    have h0 : (i 0).val < 1536 := (i 0).isLt
    have h1 : (i 1).val < 1536 := (i 1).isLt
    refine ⟨⟨(i 0).val / 192, by omega⟩, (LoadRect.mem_set _).mpr fun a => ?_⟩
    fin_cases a
    · exact ⟨(i 0).val % 192, Nat.mod_lt _ (by decide), by show (i 0).val = 192 * ((i 0).val / 192) + 1 * ((i 0).val % 192); omega⟩
    · exact ⟨(i 1).val, h1, by show (i 1).val = 0 + 1 * (i 1).val; omega⟩
  apart k k' i hk hk' := by
    obtain ⟨j, hj, e⟩ := (LoadRect.mem_set _).mp hk 0
    obtain ⟨j', hj', e'⟩ := (LoadRect.mem_set _).mp hk' 0
    replace hj : j < 192 := hj
    replace hj' : j' < 192 := hj'
    replace e : (i 0).val = 192 * k.val + 1 * j := e
    replace e' : (i 0).val = 192 * k'.val + 1 * j' := e'
    exact Fin.ext (by omega)

/-- The slots tile a scratch. -/
theorem tR_tiling : Tiling tR where
  cover i := by
    have h1 : (i 1).val < 192 := (i 1).isLt
    have h2 : (i 2).val < 1536 := (i 2).isLt
    refine ⟨⟨(i 0).val, (i 0).isLt⟩, (LoadRect.mem_set _).mpr fun a => ?_⟩
    fin_cases a
    · exact ⟨0, Nat.one_pos, by show (i 0).val = (i 0).val + 1 * 0; omega⟩
    · exact ⟨(i 1).val, h1, by show (i 1).val = 0 + 1 * (i 1).val; omega⟩
    · exact ⟨(i 2).val, h2, by show (i 2).val = 0 + 1 * (i 2).val; omega⟩
  apart k k' i hk hk' := by
    obtain ⟨j, hj, e⟩ := (LoadRect.mem_set _).mp hk 0
    obtain ⟨j', hj', e'⟩ := (LoadRect.mem_set _).mp hk' 0
    replace hj : j < 1 := hj
    replace hj' : j' < 1 := hj'
    replace e : (i 0).val = k.val + 1 * j := e
    replace e' : (i 0).val = k'.val + 1 * j' := e'
    exact Fin.ext (by omega)

end Cert.Chunks

end
-- ==== Proof.Body.lean ====
/-
# The body, run

From what a device holds at launch, its kernel body ends with its result band by band the sum of its own product and
its mate's, both scratches back, and every semaphore at zero.
-/
module

public import proofs.«01_k».proof.Proof.Tiles

@[expose] public section

noncomputable section

namespace Cert.Chunks

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Assertions over all semaphores -/

/-- One assertion of each of the seventeen semaphores: the barrier's, the eight out, the eight in. -/
theorem all_sems (Φ : Sm → sProp 𝕄) : (bigSep Finset.univ Φ : sProp 𝕄)
    = iprop(Φ bar ∗ (bigSep Finset.univ fun k : Fin 8 => Φ (out k)) ∗ bigSep Finset.univ fun k : Fin 8 => Φ (inn k)) := by
  have h1 : (bigSep Finset.univ fun u : Unit => Φ (.inl u)) = Φ bar := by
    rw [show (Finset.univ : Finset Unit) = {()} from rfl, bigSep_singleton]
  rw [bigSep_univ_sum, h1, bigSep_univ_sum]; rfl

theorem all_transfers (Φ : Fin 8 ⊕ Fin 8 → sProp 𝕄) : (bigSep Finset.univ Φ : sProp 𝕄)
    = iprop((bigSep Finset.univ fun k : Fin 8 => Φ (.inl k)) ∗ bigSep Finset.univ fun k : Fin 8 => Φ (.inr k)) := by
  rw [bigSep_univ_sum]; rfl

/-! ## What a device starts with and ends with -/

/-- The rights a device alone has: its place at each of its semaphores, and the right to each payment it makes. -/
def linear (c : Dev nD) : sProp 𝕄 :=
  iprop((bigSep Finset.univ fun x : Sm => atPos ER (cell (c, x)) 0 ∅ 0)
    ∗ dutyTok ER (cell (mate c, bar)) 0 ()
    ∗ (bigSep Finset.univ fun k : Fin 8 => dutyTok ER (cell (c, out k)) 0 ())
    ∗ bigSep Finset.univ fun k : Fin 8 => dutyTok ER (cell (mate c, inn k)) 0 ())
def ghost (K : Dev nD × Sm → ℕ) (c : Dev nD) : sProp 𝕄 := iprop(records m ρ K ∗ linear c)
/-- The payments it counts on. -/
def credits (c : Dev nD) : sProp 𝕄 :=
  iprop(cred (tallyAt (cell (c, bar)) () 1) ∗ bigSep Finset.univ fun k : Fin 8 => cred (tallyAt (cell (c, inn k)) () N))
def start (c : Dev nD) : sProp 𝕄 := iprop((∃ K, ghost m ρ K c) ∗ credits c ∗ levAts L lv)

def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratches c)
def Φ₁ (c : Dev nD) : sProp 𝕄 := iprop(scratches c ∗ bigSep Finset.univ fun x : Sm => semVal (cell (c, x)) 0)

/-- The result block of device `c`: its bands, glued. -/
def result (c : Dev nD) : (cc0_stg2_0 : Ref sig .tc).ty.Contents (Elt F) := glue oR_tiling (total m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => lhs m ρ c
    | ⟨1, _⟩ => rhs m ρ c
    | ⟨2, _⟩ => result m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)
theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The two loops -/

/-- What the first loop takes, sorted by kind. -/
theorem sendIn_all (c : Dev nD) : (bigSep Finset.univ fun k : Fin 8 => (sendIn c k : sProp 𝕄))
    = iprop((bigSep Finset.univ fun k : Fin 8 => holdsAny c oM (oR k)) ∗ (bigSep Finset.univ fun k : Fin 8 => holdsAny c sM (tR k))
      ∗ (bigSep Finset.univ fun k : Fin 8 => holdsAny (mate c) rM (tR k)) ∗ (bigSep Finset.univ fun k : Fin 8 => dutyTok ER (cell (c, out k)) 0 ())
      ∗ bigSep Finset.univ fun k : Fin 8 => dutyTok ER (cell (mate c, inn k)) 0 ()) := by
  unfold sendIn; simp only [bigSep_sep']

/-- What the first loop leaves, with what the device had kept aside, is what the second takes. -/
theorem addIn_all (c : Dev nD) :
    iprop((bigSep Finset.univ fun k : Fin 8 => sendOut m ρ c k) ∗ (bigSep Finset.univ fun k : Fin 8 => cred (tallyAt (cell (c, inn k)) () N))
      ∗ (bigSep Finset.univ fun k : Fin 8 => atPos ER (cell (c, out k)) 0 ∅ 0) ∗ bigSep Finset.univ fun k : Fin 8 => atPos ER (cell (c, inn k)) 0 ∅ 0)
      ⊢ (bigSep Finset.univ fun k : Fin 8 => addIn m ρ c k : sProp 𝕄) := by
  unfold addIn sendOut; simp only [bigSep_sep']
  iintro ⟨⟨H1, H2⟩, H3, H4, H5⟩
  isplitl [H1]; · iexact H1
  isplitl [H2]; · iexact H2
  isplitl [H3]; · iexact H3
  isplitl [H4] <;> iassumption

/-- What the second loop leaves: the result whole, the scratches whole, the transfers' semaphores at zero. -/
theorem addOut_all (c : Dev nD) : (bigSep Finset.univ fun k : Fin 8 => addOut m ρ c k : sProp 𝕄)
    ⊢ iprop((((c : Thread nD τ).loc cc0_stg2_0) ↦{fullShare} result m ρ c) ∗ scratches c
      ∗ (bigSep Finset.univ fun k : Fin 8 => semVal (cell (c, out k)) 0) ∗ bigSep Finset.univ fun k : Fin 8 => semVal (cell (c, inn k)) 0) := by
  unfold addOut; simp only [bigSep_sep']
  iintro ⟨Ho, Hs, Hr, Hz1, Hz2⟩
  isplitl [Ho]; · iapply (glued (b := cc0_stg2_0) oR_tiling c (total m ρ c)); iexact Ho
  isplitl [Hs Hr]
  · unfold scratches
    isplitl [Hs]
    · iexists _; iapply (glued (b := cc0_scratch0) tR_tiling c (sent m ρ c)); iexact Hs
    · iexists _; iapply (glued (b := cc0_scratch1) tR_tiling c (sent m ρ (mate c))); iexact Hr
  isplitl [Hz1] <;> iassumption

/-! ## The body -/

variable (K : Dev nD × Sm → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body from its working state, the staged operands and the result's buffer at anything. -/
theorem wp_body (c : Dev nD) (fo : Buf (Elt F) ((c : Thread nD τ).loc cc0_stg2_0)) (W : Waits sig Unit) (Kt : PUnit → sProp 𝕄) :
    iprop((ghost m ρ K c ∗ credits c ∗ levAts L lv ∗ scratches c ∗ owes (c : Thread nD τ) (O₀ c) W
        ∗ at_ c cc0_stg0_0 (lhs m ρ c) ∗ at_ c cc0_stg1_0 (rhs m ρ c) ∗ at_ c cc0_stg2_0 fo)
      ∗ ((Φ₁ c ∗ (∃ W, owes (c : Thread nD τ) 0 W) ∗ at_ c cc0_stg0_0 (lhs m ρ c) ∗ at_ c cc0_stg1_0 (rhs m ρ c) ∗ at_ c cc0_stg2_0 (result m ρ c)) -∗ Kt ⟨⟩))
      ⊢ wp frame (wpE (defs₀ (F := F)) 𝒱₀ (c : Thread nD τ) none) Set.univ body Kt := by
  unfold body
  simp only [semSignalWord, semWaitWord, Prog.lift, Prog.bind_op, Prog.bind_ret, wp_deviceId]
  simp only [signalled_eq c, target_eq c]
  unfold ghost linear credits
  rw [all_sems]
  iintro ⟨⟨⟨#HR, ⟨HatB, HatO, HatI⟩, HtB, HtO, HtI⟩, ⟨HcB, HcI⟩, #Hlev, Hscr, HO, Ha, Hb, Ho⟩, Hk⟩
  unfold scratches
  icases Hscr with ⟨⟨%fs, Hs⟩, ⟨%fr, Hr⟩⟩
  ihave Hr := (cut_up (b := cc0_scratch1) tR_tiling c fr) $$ Hr
  iapply (Rounds.wp_signal 𝒱₀ ER (sched m ρ) (c : Thread nD τ) none (dst := (mate c : Thread nD τ)) (sem := barS) (r := 0) (d := ()) (κ := K (mate c, bar))
      (by rw [duties_cell m ρ (mate c) bar]; exact Finset.mem_singleton_self _) ((amount_cell m ρ (mate c) bar ()).trans (by decide)) () (owed c order) rfl)
    $$ [HO HtB Hr]
  · isplitr; · iapply (inv_at m ρ K (mate c, bar)); iexact HR
    isplitl [HO]; · iexact HO
    isplitl [HtB]; · iexact HtB
    isplitl [Hr]
    · rw [payload_cell m ρ (mate c) bar]; unfold hands; rw [mate_mate]; iexact Hr
    · iapply (reached_at m ρ K (mate c, bar)); iexact HR
  iintro HO
  iapply (Rounds.wp_wait_rest_token 𝒱₀ ER (sched m ρ) (c : Thread nD τ) none (κ := K (c, bar))
      (wpE_semWait_eq 𝒱₀ (c : Thread nD τ) none Set.univ) (Set.mem_univ _) () (O := owed c order) (W := W) (R := 0) (m := 0) (T := ∅)
      (by rw [expect_cell m ρ c bar]; decide)) $$ [HcB HO HatB]
  · isplitr; · iapply (inv_at m ρ K (c, bar)); iexact HR
    isplitl [HcB]; · iexact HcB
    isplitl [HO]; · iexact HO
    isplitr; · iapply (mayWait_bar c); iexact Hlev
    iexact HatB
  iintro ⟨HO, HatB, -, Hpay⟩
  ihave Hr := (Entails.of_eq (rest_cell m ρ c bar)) $$ Hpay
  unfold hands
  imod (Rounds.cell_close ER (sched m ρ) (Set.mem_univ (K (c, bar))) (fun h => h) (R := 0 + 1) (duties_later m ρ (cell (c, bar)))) $$ [HatB] with HzB
  · isplitr; · iapply (inv_at m ρ K (c, bar)); iexact HR
    iexact HatB
  ihave Ho := (cut_up (b := cc0_stg2_0) oR_tiling c fo) $$ Ho
  ihave Hs := (cut_up (b := cc0_scratch0) tR_tiling c fs) $$ Hs
  iapply (wp_inOrder c (fun k => mulSend k (mate c)) (inOrder awaitAdd (pure ⟨⟩) order) (sendIn c) (sendOut m ρ c)
    (sendInv m ρ K c (insert (csem bar, ()) W)) (fun k l => wp_mulSend m ρ K c (mate c) rfl _ k l) Kt order order_nodup)
  rw [order_all, sendIn_all c]
  isplitl [HO Ha Hb Ho Hs Hr HtO HtI]
  · isplitl [Ho Hs Hr HtO HtI]
    · isplitl [Ho]; · iexact Ho
      isplitl [Hs]; · iexact Hs
      isplitl [Hr]; · iexact Hr
      isplitl [HtO] <;> iassumption
    unfold sendInv
    isplitr; · iexact HR
    isplitl [Ha]; · iexact Ha
    isplitl [Hb] <;> iassumption
  unfold sendInv
  iintro ⟨Hout, -, Ha, Hb, HO⟩
  ihave Hin := (addIn_all m ρ c) $$ [Hout HcI HatO HatI]
  · isplitl [Hout]; · iexact Hout
    isplitl [HcI]; · iexact HcI
    isplitl [HatO] <;> iassumption
  iapply (wp_inOrder c awaitAdd (pure ⟨⟩) (addIn m ρ c) (addOut m ρ c)
    (fun _ => addInv m ρ K c) (fun k l => wp_awaitAdd m ρ K c k) Kt order order_nodup)
  rw [order_all]
  isplitl [Hin HO]
  · isplitl [Hin]; · iexact Hin
    unfold addInv
    isplitr; · iexact HR
    iexists _; iexact HO
  unfold addInv
  iintro ⟨Hout, -, HO⟩
  ihave Hall := (addOut_all m ρ c) $$ Hout
  icases Hall with ⟨Ho, Hscr, HzO, HzI⟩
  rw [Prog.pure_eq_ret, wp_ret]; imodintro
  iapply Hk
  unfold Φ₁
  rw [all_sems]
  isplitl [Hscr HzB HzO HzI]
  · isplitl [Hscr]; · iexact Hscr
    isplitl [HzB]; · iexact HzB
    isplitl [HzO] <;> iassumption
  isplitl [HO]; · iexact HO
  isplitl [Ha]; · iexact Ha
  isplitl [Hb] <;> iassumption

theorem fetched (w : Fin 3) (hw : w = 0 ∨ w = 1) : (cfg0.win w).fetch t₀ = true := by
  rcases hw with rfl | rfl <;> rfl

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ
    ∗ stg c cc0_stg0_0 (lhs m ρ c) ∗ stg c cc0_stg1_0 (rhs m ρ c) ∗ stg c cc0_stg2_0 (result m ρ c))

theorem body_sound (c : Dev nD) :
    bodyPre m ρ c ⊢ wp frame (wpE (defs₀ (F := F)) 𝒱₀ (c : Thread nD τ) none) Set.univ body (fun _ => bodyPost m ρ c) := by
  unfold bodyPre Φ₀ start
  iintro ⟨⟨⟨⟨%K, Hg⟩, Hc, Hlev⟩, Hscr⟩, HO, ⟨%d0, %g0, %hg0, Ha⟩, ⟨%d1, %g1, %hg1, Hb⟩, ⟨%d2, %g2, %hg2, Ho⟩⟩
  have ha : g0 = lhs m ρ c := by rw [hg0]; unfold Dat.before; rw [if_pos (fetched 0 (.inl rfl))]; rfl
  have hb : g1 = rhs m ρ c := by rw [hg1]; unfold Dat.before; rw [if_pos (fetched 1 (.inr rfl))]; rfl
  subst ha hb
  unfold Dat.owesAt Pipeline.owesWithin
  icases HO with ⟨%W, %hW, HO⟩
  rw [show (dats m ρ 0 c).owed t₀.castSucc = O₀ c from rfl]
  iapply (wp_body m ρ K c g2 W fun _ => bodyPost m ρ c)
  isplitl
  · isplitl [Hg]; · iexact Hg
    isplitl [Hc]; · iexact Hc
    isplitl [Hlev]; · iexact Hlev
    isplitl [Hscr]; · iexact Hscr
    isplitl [HO]; · iexact HO
    isplitl [Ha]; · iexact Ha
    isplitl [Hb] <;> iassumption
  iintro ⟨HΦ, ⟨%W', HO⟩, Ha, Hb, Ho⟩
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Ho

set_option maxRecDepth 65536 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) cc0_scratch2 cc0_scratch3) (fun _ => bodyPost m ρ c)
  rw [body_eq]
  exact body_sound m ρ c

end Cert.Chunks

end
-- ==== Proof.Run.lean ====
/-
# The launch, and the run of @main

The semaphores' records and rights are made at launch and dealt out, the right to pay a semaphore to the device that
pays it; the run of @main on all four devices follows from the body's.
-/
module

public import proofs.«01_k».proof.Proof.Body
public import Idealize.ShloMosaic.Lib.Pipeline.CollectiveSegs

@[expose] public section

noncomputable section

namespace Cert.Chunks

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide
theorem share_eq (c : Dev nD) (w : Fin cfg0.W) : (dats m ρ 0 c).share w = fullShare := by unfold Dat.share; split <;> rfl

/-! ## Making the records and rights -/

def allCells : Finset (GSem nD τ sig) := Finset.univ.map ⟨cell, cell_injective⟩
def allToks : Finset (GSem nD τ sig × ℕ × Unit) :=
  Finset.univ.map ⟨fun cx : Dev nD × Sm => (cell cx, 0, ()), fun _ _ h => cell_injective (congrArg Prod.fst h)⟩

def u₀ : UU := (initOf (Pipeline.cells cfgs cellOf_inj) (Pipeline.launchToks cfgs cellOf_inj), initOf allCells allToks)

/-- The rights to pay device `c`'s own semaphores. -/
def toks (c : Dev nD) : sProp 𝕄 := bigSep Finset.univ fun x : Sm => dutyTok ER (cell (c, x)) 0 ()

def places (c : Dev nD) : sProp 𝕄 := bigSep Finset.univ fun x : Sm => atPos ER (cell (c, x)) 0 ∅ 0
def marks (c : Dev nD) : sProp 𝕄 := bigSep Finset.univ fun x : Sm => reached ER (cell (c, x)) 0

def G (c : Dev nD) : sProp 𝕄 :=
  iprop((bigSep Finset.univ fun x : Sm => roundState ER (sched m ρ) (cell (c, x)) 0) ∗ places c ∗ marks c ∗ toks c)
def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun x : Sm => Φ (cell (c, x)) := by
    unfold allCells; rw [bigSep_map, bigSep_univ_prod]; rfl
  have hT : bigSep allToks (fun t => (dutyTok ER t.1 t.2.1 t.2.2 : sProp 𝕄)) = bigSep Finset.univ fun c : Dev nD => toks c := by
    unfold allToks; rw [bigSep_map, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places marks; simp only [bigSep_sep']
  isplitl [Hst']; · iexact Hst'
  isplitl [Hat']; · iexact Hat'
  isplitl [Hr'] <;> iassumption

theorem ownSems0_eq (c : Dev nD) : (Pipeline.ownSems0 (Ix := Unit) (Name := ℕ) (U := UU) (Lvl := ℕ) (Val := Elt F) (τ := τ) osem c : sProp 𝕄)
    = iprop((bigSep Finset.univ fun k : Fin 8 => semVal (cell (c, out k)) 0) ∗ bigSep Finset.univ fun k : Fin 8 => semVal (cell (c, inn k)) 0) :=
  all_transfers fun x => semVal (cell (c, .inr x)) 0
/-- The barrier is the one semaphore the kernel does not allocate. -/
theorem unscopedSems0_eq (c : Dev nD) : (unscopedSems0 c : sProp 𝕄) = semVal (cell (c, bar)) 0 := by
  unfold unscopedSems0; rw [bigSep_eq_bigSepL_of_eq [SemLoc.reg barS] (by decide) (by decide)]; rfl

/-- The allocated semaphores at zero and the barrier's are all seventeen at zero. -/
theorem sems0 (c : Dev nD) : (bigSep Finset.univ fun x : Sm => semVal (cell (c, x)) 0 : sProp 𝕄)
    = iprop(unscopedSems0 c ∗ Pipeline.ownSems0 (Ix := Unit) (Name := ℕ) (U := UU) (Lvl := ℕ) (Val := Elt F) (τ := τ) osem c) := by
  rw [all_sems, ownSems0_eq, unscopedSems0_eq]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Sm => iprop(∃ κ : ℕ, cellInv ER (sched m ρ) κ (cell (c, x)))) ∗ places c ∗ marks c ∗ toks c) := by
  unfold G
  iintro ⟨Hos, Hus, Hst, Hrest⟩
  ihave Hv := (Entails.of_eq (sems0 (F := F) c).symm) $$ [Hos Hus]
  · isplitl [Hus] <;> iassumption
  imod (show iprop((bigSep Finset.univ fun x : Sm => semVal (cell (c, x)) 0) ∗ bigSep Finset.univ fun x : Sm => roundState ER (sched m ρ) (cell (c, x)) 0)
      ⊢ (|={Set.univ}=> bigSep Finset.univ fun x => iprop(∃ κ : ℕ, cellInv ER (sched m ρ) κ (cell (c, x))) : sProp 𝕄) from by
        rw [← bigSep_sep']
        exact (bigSep_mono fun x _ => (Rounds.body_intro ER (sched m ρ) (cell (c, x))).trans inv_alloc).trans (bigSep_fupd _ _)) $$ [Hv Hst] with Hinv
  · isplitl [Hv] <;> iassumption
  imodintro
  isplitl [Hinv]; · iexact Hinv
  iexact Hrest

/-- The right to pay goes to the payer: barrier and arrivals to the mate, departures to the device itself. -/
theorem dealt : iprop((bigSep Finset.univ fun c : Dev nD => places c) ∗ bigSep Finset.univ fun c : Dev nD => toks c)
    ⊢ (bigSep Finset.univ fun c : Dev nD => linear c : sProp 𝕄) := by
  have hs (c : Dev nD) : (toks c : sProp 𝕄) = iprop(dutyTok ER (cell (c, bar)) 0 () ∗ (bigSep Finset.univ fun k : Fin 8 => dutyTok ER (cell (c, out k)) 0 ())
      ∗ bigSep Finset.univ fun k : Fin 8 => dutyTok ER (cell (c, inn k)) 0 ()) := by unfold toks; rw [all_sems]
  unfold linear
  simp only [hs, bigSep_sep']
  rw [bigSep_univ_equiv pairing (fun c : Dev nD => (dutyTok ER (cell (c, bar)) 0 () : sProp 𝕄)),
    bigSep_univ_equiv pairing (fun c : Dev nD => (bigSep Finset.univ fun k : Fin 8 => dutyTok ER (cell (c, inn k)) 0 () : sProp 𝕄))]
  iintro ⟨HP, HB, HO, HI⟩
  isplitl [HP]; · iexact HP
  isplitl [HB]; · iexact HB
  isplitl [HO]; · iexact HO
  iexact HI

/-- A persistent assertion may be used at every index. -/
theorem everywhere {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Sm => iprop(∃ κ : ℕ, cellInv ER (sched m ρ) κ (cell (c, x)))) ∗ places c ∗ marks c ∗ toks c) : sProp 𝕄)
      ⊢ bigSep Finset.univ (G' m ρ) := by
  unfold marks
  rw [bigSep_sep', bigSep_sep', bigSep_sep', ← bigSep_univ_prod (fun cx : Dev nD × Sm => iprop(∃ κ : ℕ, cellInv ER (sched m ρ) κ (cell cx))),
    ← bigSep_univ_prod (fun cx : Dev nD × Sm => (reached ER (cell cx) 0 : sProp 𝕄))]
  iintro ⟨HI, Hat, #HR, Htok⟩
  ihave HK := (BI.bigSep_exists_pi Finset.univ (fun (cx : Dev nD × Sm) (κ : ℕ) => (cellInv ER (sched m ρ) κ (cell cx) : sProp 𝕄))) $$ HI
  icases HK with ⟨%K, #HI⟩
  ihave Hlin := (dealt (F := F)) $$ [Hat Htok]
  · isplitl [Hat] <;> iassumption
  iapply (everywhere (R := records m ρ K) (Φ := fun c : Dev nD => linear c) fun c _ => show iprop(records m ρ K ∗ linear c) ⊢ G' m ρ c from by
    unfold G' ghost; iintro H; iexists K; iexact H)
  isplitr
  · unfold records; isplitl; · iexact HI
    iexact HR
  · iexact Hlin

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem cell_mate {d c : Dev nD} {x y : Sm} : cell (mate d, x) = cell (c, y) ↔ d = mate c ∧ x = y := by
  constructor
  · intro h
    have h' := Prod.mk.inj (cell_injective h)
    exact ⟨by rw [← h'.1, mate_mate], h'.2⟩
  · rintro ⟨rfl, rfl⟩; rw [mate_mate]

/-- A chunk is owed by the mate, once. -/
theorem owed_at (d c : Dev nD) (x : Sm) (l : List (Fin 8)) :
    owed d l (cell (c, x)) () = if d = mate c then (l.map fun k => if x = inn k then N else 0).sum else 0 := by
  induction l with
  | nil => split <;> rfl
  | cons k l ih =>
    unfold owed
    rw [Pi.add_apply, Finsupp.add_apply, ih, tallyAt_apply]
    by_cases hd : d = mate c
    · rw [if_pos hd, if_pos hd, List.map_cons, List.sum_cons, Nat.add_comm]
      congr 1
      by_cases hx : x = inn k
      · rw [if_pos hx, if_pos ⟨(cell_mate.mpr ⟨hd, hx.symm⟩).symm, rfl⟩]
      · rw [if_neg hx, if_neg fun h => hx (cell_mate.mp h.1.symm).2.symm]
    · rw [if_neg hd, if_neg hd, if_neg fun h => hd (cell_mate.mp h.1.symm).1]

theorem once (k : Fin 8) : ∀ n : ℕ, (order.map fun k' => if inn k = inn k' then n else 0).sum = n := by
  intro n; fin_cases k <;> simp [order]

/-- The one payment device `c` counts on at its barrier, and at the arrival of chunk `k`, is its mate's. -/
theorem launch_sum (c : Dev nD) (x : Sm) (n : ℕ) (h : ∀ d, O₀ d (cell (c, x)) () = if d = mate c then n else 0) :
    tallyOn (cell (c, x)) (launchCredit (Pipeline.owing O₀) 0 (cell (c, x))) = (tallyAt (cell (c, x)) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (mate c) fun _ => n,
    if_pos (Finset.mem_univ _)]

theorem O₀_bar (d c : Dev nD) : O₀ d (cell (c, bar)) () = if d = mate c then 1 else 0 := by
  unfold O₀
  rw [Pi.add_apply, Finsupp.add_apply, owed_at, tallyAt_apply]
  by_cases hd : d = mate c
  · rw [if_pos hd, if_pos hd, if_pos ⟨(cell_mate.mpr ⟨hd, rfl⟩).symm, rfl⟩]; rfl
  · rw [if_neg hd, if_neg hd, if_neg fun h => hd (cell_mate.mp h.1.symm).1]

theorem O₀_inn (d c : Dev nD) (k : Fin 8) : O₀ d (cell (c, inn k)) () = if d = mate c then N else 0 := by
  have hb : ¬ (cell (c, inn k) = cell (mate d, bar) ∧ () = ()) := fun h => by
    have h' := (cell_mate.mp h.1.symm).2
    cases h'
  unfold O₀
  rw [Pi.add_apply, Finsupp.add_apply, owed_at, tallyAt_apply, once, if_neg hb, Nat.add_zero]

theorem creds (c : Dev nD) : (Pipeline.launchCred O₀ c : sProp 𝕄) ⊢ credits c := by
  have hx (x : Sm) (n : ℕ) (h : ∀ d, O₀ d (cell (c, x)) () = if d = mate c then n else 0) := launch_sum c x n h
  unfold Pipeline.launchCred credits
  rw [← hx bar 1 (O₀_bar · c)]
  have hi : (bigSep Finset.univ fun k : Fin 8 => (cred (tallyAt (cell (c, inn k)) () N) : sProp 𝕄))
      = bigSep Finset.univ fun k : Fin 8 => cred (tallyOn (cell (c, inn k)) (launchCredit (Pipeline.owing O₀) 0 (cell (c, inn k)))) :=
    bigSep_congr fun k _ => by rw [hx (inn k) N (O₀_inn · c k)]
  rw [hi]
  refine (bigSep_subset (Finset.subset_univ (Finset.univ.map ⟨csem, csem_injective⟩))).trans ?_
  rw [bigSep_map, all_sems]
  show iprop(cred (tallyOn (cell (c, bar)) (launchCredit (Pipeline.owing O₀) 0 (cell (c, bar)))) ∗
      (bigSep Finset.univ fun k : Fin 8 => cred (tallyOn (cell (c, out k)) (launchCredit (Pipeline.owing O₀) 0 (cell (c, out k))))) ∗
      bigSep Finset.univ fun k : Fin 8 => cred (tallyOn (cell (c, inn k)) (launchCredit (Pipeline.owing O₀) 0 (cell (c, inn k))))) ⊢ (_ : sProp 𝕄)
  iintro ⟨HB, -, HI⟩
  isplitl [HB] <;> iassumption

/-! ## The run's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratches
  rw [sems0]
  iintro ⟨Hr, HzB, Hz⟩
  isplitl [HzB]; · iexact HzB
  isplitl [Hz] <;> iassumption

/-- The staging's semaphores come before the kernel's, so are below everything owed. -/
theorem staging_low (q : DmaSem sig) (hq : q.val < 3) (c : Dev nD) : lv ((c : Thread nD τ), SemLoc.dma q) () = 0 := by
  have hw : which (SemLoc.dma q) = none := by
    unfold which
    rw [dif_neg]
    rintro ⟨_ | k | k, h⟩
    · cases h
    · have h' := congrArg Fin.val (SemLoc.dma.inj h); rw [sendS_val] at h'; omega
    · have h' := congrArg Fin.val (SemLoc.dma.inj h); rw [recvS_val] at h'; omega
  unfold lv; rw [hw]; rfl

theorem waits (c : Dev nD) : (levAts L lv : sProp 𝕄) ⊢ Pipeline.cellsWaits cfgs (dats m ρ) () 0 c :=
  Pipeline.cellsWaits_intro cfgs (dats m ρ) () 0 c fun w s t =>
    mayWait_low c _ (staging_low _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- For any float values, from any memory with zero counters: every weakly fair execution of @main on the four devices
    terminates without fault, each device's operand and result arrays end at the contents computed, and every semaphore
    counter ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operand arrays end as they began. -/
theorem finalA_lhs (c : Dev nD) : finalA m ρ c (0 : Fin 3) = m ((c : Thread nD τ).loc main_arg0) :=
  (dats (F := F) m ρ 0 c).arrAt_in (0 : Fin 3) rfl _
theorem finalA_rhs (c : Dev nD) : finalA m ρ c (1 : Fin 3) = m ((c : Thread nD τ).loc main_arg1) :=
  (dats (F := F) m ρ 0 c).arrAt_in (1 : Fin 3) rfl _

end Cert.Chunks

end
-- ==== Proof.Printed.lean ====
/-
# The printed program and its ideal text are one program

No operation was replaced, so the two texts differ in name only, and a run of one is a run of the other.
-/
module

public import proofs.«01_k».proof.Defs
public import proofs.«01_k».proof.Proof.Run
public import proofs.«01_k».proof.Proof.Gen.Kernel.Skeleton

@[expose] public section

noncomputable section

namespace Cert.Chunks

open Idealize.ShloMosaic Idealize.SL.Sem

local instance : Cert.Kernel.Facts := Cert.Kernel.Gen.facts
local instance : Cert.KernelIdeal.Facts := Cert.KernelIdeal.Gen.facts

theorem printed_main : Cert.Kernel.main (F := Bits) = Cert.KernelIdeal.main := rfl

/-- The kernel bodies are one. -/
theorem printed_bodies : Cert.Kernel.defs₀ (F := Bits) = Cert.KernelIdeal.defs₀ := by
  unfold Cert.Kernel.defs₀ Cert.KernelIdeal.defs₀
  congr 1
  funext p x
  match p, x with
  | 0, (t, s) => rfl

theorem printed_defs : Cert.Kernel.defs (F := Bits) = Cert.KernelIdeal.defs :=
  congrArg (Pipeline.defs (Cert.KernelIdeal.pcfgs (F := Bits))) printed_bodies

/-- What every run of the ideal text, read at bit-level floats, reaches, every run of the printed program does. -/
theorem printed_run (s : MemSt Cert.Kernel.nD Cert.Kernel.τ Cert.Kernel.sig (Elt Bits))
    (Q : PUnit × MemSt Cert.Kernel.nD Cert.Kernel.τ Cert.Kernel.sig (Elt Bits) → Prop)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := by
  rw [printed_defs, printed_main]; exact h

end Cert.Chunks

end
-- ==== Proof.Value.lean ====
/-
# What the result holds, over the extended reals

An entry of device `c`'s result is the sum of two products' entries, its own and its mate's. Each device holds half the
columns of the left operand and the matching half of the rows of the right, so the two sums over 768 positions are the
two halves of the one sum over 1536 that the whole product takes.
-/
module

public import proofs.«01_k».proof.Proof.Run
public import Idealize.ShloMosaic.Lib.MatmulPlain
public import Idealize.ShloMosaic.Lib.ValueLayout
public import Idealize.ShloMosaic.Lib.StackMember
public import Idealize.ShloMosaic.Lib.Layout
public import Idealize.ShloMosaic.Lib.Pipeline.Value
public import Idealize.ShloMosaic.Lib.Pipeline.ValueKit.Geometry

@[expose] public section

noncomputable section

namespace Cert.Chunks

open Cert.KernelIdeal Cert.KernelIdeal.Gen
open Idealize.ShloMosaic
open Idealize.ShloMosaic.TcCoe
open Idealize.ShloMosaic.ValueIdx
open Idealize.ShloMosaic.Pipeline (Dat)
open scoped BigOperators

section Any

variable {F : FTy → Type} [FloatOps F]
variable (m : (ℓ : Loc nD τ sig) → Buf (Elt F) ℓ) (ρ : Dev nD → PrngReg)

/-- The result array ends holding the bands, glued. -/
theorem finalA_result (c : Dev nD) : finalA m ρ c (2 : Fin 3) = result m ρ c := by
  unfold finalA
  exact (dats m ρ 0 c).arrAt_eq_of_after_last (2 : Fin 3) t₀ (by decide +kernel) (result m ρ c) fun j => rfl

/-- Row `i` of chunk `k`. -/
def row (k : Fin 8) (i : Fin 192) : Fin 1536 := ⟨192 * k.val + i.val, by omega⟩

/-- The bands' rectangles place row `i` of band `k` at row `192 k + i`. -/
theorem oR_emb (k : Fin 8) (i : Fin 192) (j : Fin 1536) : (oR k).emb (ix2 i j) = (ix2 (row k i) j : S1536x1536.Idx) := by
  funext a
  apply Fin.ext
  match a with
  | ⟨0, _⟩ => show 192 * k.val + 1 * i.val = 192 * k.val + i.val; omega
  | ⟨1, _⟩ => show 0 + 1 * j.val = j.val; omega

/-- Every entry of a result block lies in some band. -/
theorem by_bands {P : S1536x1536.Idx → Prop} (h : ∀ k i j, P (ix2 (row k i) j)) (x : S1536x1536.Idx) : P x := by
  obtain ⟨k, y, rfl⟩ := oR_tiling.place x
  have e : y = ix2 (y 0 : Fin 192) (y 1 : Fin 1536) := eq_ix2 y
  have e' : (oR k).emb y = ix2 (row k (y 0 : Fin 192)) (y 1 : Fin 1536) := (congrArg (oR k).emb e).trans (oR_emb k _ _)
  rw [e']; exact h k _ _

theorem lhs_at (c : Dev nD) (x : S1536x768.Idx) : lhs m ρ c x = m ((c : Thread nD τ).loc main_arg0) x := by
  refine congrArg (m ((c : Thread nD τ).loc main_arg0)) ?_
  funext a
  apply Fin.ext
  match a with
  | ⟨0, _⟩ => show 0 * 1536 + 1 * (x 0).val = (x 0).val; omega
  | ⟨1, _⟩ => show 0 * 768 + 1 * (x 1).val = (x 1).val; omega
theorem rhs_at (c : Dev nD) (x : S768x1536.Idx) : rhs m ρ c x = m ((c : Thread nD τ).loc main_arg1) x := by
  refine congrArg (m ((c : Thread nD τ).loc main_arg1)) ?_
  funext a
  apply Fin.ext
  match a with
  | ⟨0, _⟩ => show 0 * 768 + 1 * (x 0).val = (x 0).val; omega
  | ⟨1, _⟩ => show 0 * 1536 + 1 * (x 1).val = (x 1).val; omega

/-- The rows loaded for chunk `k` are rows `192 k …` of the left block. -/
theorem lhsRows_at (c : Dev nD) (k : Fin 8) (i : Fin 192) (t : Fin 768) :
    lhsRows m ρ c k (ix2 i t) = m ((c : Thread nD τ).loc main_arg0) (ix2 (row k i) t : S1536x768.Idx) := by
  rw [← lhs_at m ρ c]
  refine congrArg (lhs m ρ c) ?_
  funext a
  apply Fin.ext
  match a with
  | ⟨0, _⟩ => show 192 * k.val + 1 * i.val = 192 * k.val + i.val; omega
  | ⟨1, _⟩ => show 0 + 1 * t.val = t.val; omega
/-- The right block is loaded whole. -/
theorem rhsAll_at (c : Dev nD) (t : Fin 768) (j : Fin 1536) :
    rhsAll m ρ c (ix2 t j) = m ((c : Thread nD τ).loc main_arg1) (ix2 t j : S768x1536.Idx) := by
  rw [← rhs_at m ρ c]
  refine congrArg (rhs m ρ c) ?_
  funext a
  apply Fin.ext
  match a with
  | ⟨0, _⟩ => show 0 + 1 * t.val = t.val; omega
  | ⟨1, _⟩ => show 0 + 1 * j.val = j.val; omega

end Any

/-! ## One entry -/

/-- An entry of a chunk's product, the plain sum. -/
theorem product_at (a : Vec Ideal S192x768 .f32) (b : Vec Ideal S768x1536 .f32) (i : Fin 192) (j : Fin 1536) :
    k0_pay2 a b (ix2 i j) = ∑ t : Fin 768, a (ix2 i t) * b (ix2 t j) := by
  have h := Ideal.matmul_plain_apply (M := 192) (K := 768) (N := 1536) (φ₁ := .f32) (φ₂ := .f32) none a b
    (constant (F := Ideal) S192x1536 .f32 0x00000000#32) i j
  unfold k0_pay2
  rw [shapeCast_self, shapeCast_self]
  refine Eq.trans h ?_
  rw [show constant (F := Ideal) S192x1536 .f32 0x00000000#32 (ix2 i j) = 0 from Ideal.ofBits_zero_f32, zero_add]

/-- Sent and received again, a chunk is what it was: over the extended reals a change of format changes nothing. -/
theorem received_at (o : Vec Ideal S192x1536 .f32) (a : Vec Ideal S192x768 .f32) (b : Vec Ideal S768x1536 .f32) (i : Fin 192) (j : Fin 1536) :
    k0_pay1 o (k0_pay3 a b) (ix2 i j) = o (ix2 i j) + k0_pay2 a b (ix2 i j) := by
  unfold k0_pay1 k0_pay3
  rw [shapeCast_self]
  show o (ix2 i j) + shapeCast S192x1536 (shapeCast S1x192x1536 (k0_pay2 a b) shapeCasts_S192x1536_S1x192x1536)
    shapeCasts_S1x192x1536_S192x1536 (ix2 i j) = _
  rw [shapeCast_1ab_ab_apply, shapeCast_ab_1ab_apply]

/-! ## The two halves -/

section Halves

abbrev S1536x3072 : Shape := ⟨2, ![1536, 3072]⟩

variable (A : S1536x1536.Idx → EReal) (B : S1536x3072.Idx → EReal)

/-- The whole product's entry. -/
def whole (r : Fin 1536) (n : Fin 3072) : EReal := ∑ t : Fin 1536, A (ix2 r t) * B (ix2 t n)

/-- Position `t` of half `x` of the contracted axis. -/
def at_half (x : Fin 2) (t : Fin 768) : Fin 1536 := ⟨x.val * 768 + t.val, by omega⟩

/-- The part of it that one half of the contracted axis gives. -/
def half (x : Fin 2) (r : Fin 1536) (n : Fin 3072) : EReal := ∑ t : Fin 768, A (ix2 r (at_half x t)) * B (ix2 (at_half x t) n)

/-- The two halves make the whole, in either order. -/
theorem halves (x y : Fin 2) (h : x ≠ y) (r : Fin 1536) (n : Fin 3072) : half A B x r n + half A B y r n = whole A B r n := by
  have h01 : half A B 0 r n + half A B 1 r n = whole A B r n := by
    unfold whole half
    refine Eq.trans ?_ (Fin.sum_univ_add (a := 768) (b := 768) fun t : Fin (768 + 768) => A (ix2 r (t : Fin 1536)) * B (ix2 (t : Fin 1536) n)).symm
    have e0 (t : Fin 768) : at_half 0 t = (Fin.castAdd 768 t : Fin (768 + 768)) := Fin.ext (by show 0 * 768 + t.val = t.val; omega)
    have e1 (t : Fin 768) : at_half 1 t = (Fin.natAdd 768 t : Fin (768 + 768)) := Fin.ext (by show 1 * 768 + t.val = 768 + t.val; omega)
    simp only [e0, e1]
  match x, y with
  | 0, 0 => exact absurd rfl h
  | 0, 1 => exact h01
  | 1, 0 => rw [add_comm]; exact h01
  | 1, 1 => exact absurd rfl h

end Halves

/-! ## The mesh -/

/-- A device's coordinates. -/
def cx (c : Dev nD) : Fin 2 := ⟨c.val / 2, by have : c.val < 4 := c.isLt; omega⟩
def cy (c : Dev nD) : Fin 2 := ⟨c.val % 2, Nat.mod_lt _ (by decide)⟩

theorem cx_mate (c : Dev nD) : cx c ≠ cx (mate c) := by revert c; decide
theorem cy_mate (c : Dev nD) : cy (mate c) = cy c := by revert c; decide

/-- Column `j` of half `y`. -/
def col (y : Fin 2) (j : Fin 1536) : Fin 3072 := ⟨y.val * 1536 + j.val, by omega⟩

theorem block_lhs (A : S1536x1536.Idx → EReal) (c : Dev nD) (r : Fin 1536) (t : Fin 768) :
    Layout.blockN ⟨2, ![1536, 768]⟩ ⟨2, ![1536, 1536]⟩ (Layout.meshBlock [2, 2] ![[], [0]] c) A (by decide) (ix2 r t)
      = A (ix2 r (at_half (cx c) t)) := by
  have hc : ∀ c : Dev nD, Layout.meshLin [2, 2] c.val [0] = (cx c).val := by decide
  refine congrArg A (funext fun a => Fin.ext ?_)
  match a with
  | ⟨0, _⟩ => show 0 * 1536 + r.val = r.val; omega
  | ⟨1, _⟩ => show Layout.meshLin [2, 2] c.val [0] * 768 + t.val = (cx c).val * 768 + t.val; rw [hc]

theorem block_rhs (B : S1536x3072.Idx → EReal) (c : Dev nD) (t : Fin 768) (j : Fin 1536) :
    Layout.blockN ⟨2, ![768, 1536]⟩ ⟨2, ![1536, 3072]⟩ (Layout.meshBlock [2, 2] ![[0], [1]] c) B (by decide) (ix2 t j)
      = B (ix2 (at_half (cx c) t) (col (cy c) j)) := by
  have hx : ∀ c : Dev nD, Layout.meshLin [2, 2] c.val [0] = (cx c).val := by decide
  have hy : ∀ c : Dev nD, Layout.meshLin [2, 2] c.val [1] = (cy c).val := by decide
  refine congrArg B (funext fun a => Fin.ext ?_)
  match a with
  | ⟨0, _⟩ => show Layout.meshLin [2, 2] c.val [0] * 768 + t.val = (cx c).val * 768 + t.val; rw [hx]
  | ⟨1, _⟩ => show Layout.meshLin [2, 2] c.val [1] * 1536 + j.val = (cy c).val * 1536 + j.val; rw [hy]

theorem block_out (V : S1536x3072.Idx → EReal) (c : Dev nD) (r j : Fin 1536) :
    Layout.blockN ⟨2, ![1536, 1536]⟩ ⟨2, ![1536, 3072]⟩ (Layout.meshBlock [2, 2] ![[], [1]] c) V (by decide) (ix2 r j)
      = V (ix2 r (col (cy c) j)) := by
  have hy : ∀ c : Dev nD, Layout.meshLin [2, 2] c.val [1] = (cy c).val := by decide
  refine congrArg V (funext fun a => Fin.ext ?_)
  match a with
  | ⟨0, _⟩ => show 0 * 1536 + r.val = r.val; omega
  | ⟨1, _⟩ => show Layout.meshLin [2, 2] c.val [1] * 1536 + j.val = (cy c).val * 1536 + j.val; rw [hy]

/-! ## The result -/

variable (m : (ℓ : Loc nD τ sig) → Buf (Elt Ideal) ℓ) (ρ : Dev nD → PrngReg)
variable (A : S1536x1536.Idx → EReal) (B : S1536x3072.Idx → EReal)

/-- Every device holds its blocks of `A` and `B`. -/
def Holds : Prop := ∀ c : Dev nD,
  m ((c : Thread nD τ).loc main_arg0) = Layout.blockN ⟨2, ![1536, 768]⟩ ⟨2, ![1536, 1536]⟩ (Layout.meshBlock [2, 2] ![[], [0]] c) A (by decide)
  ∧ m ((c : Thread nD τ).loc main_arg1) = Layout.blockN ⟨2, ![768, 1536]⟩ ⟨2, ![1536, 3072]⟩ (Layout.meshBlock [2, 2] ![[0], [1]] c) B (by decide)

variable (h : Holds m A B)

include h in
/-- A device's own product is its half of the whole product's columns. -/
theorem part_at (c : Dev nD) (k : Fin 8) (i : Fin 192) (j : Fin 1536) :
    part m ρ c k (ix2 i j) = half A B (cx c) (row k i) (col (cy c) j) := by
  unfold part half
  rw [product_at]
  refine Finset.sum_congr rfl fun t _ => ?_
  rw [lhsRows_at, rhsAll_at, (h c).1, (h c).2, block_lhs, block_rhs]

include h in
/-- Device `c`'s result is its columns of the whole product. -/
theorem result_eq (c : Dev nD) : result m ρ c
    = Layout.blockN ⟨2, ![1536, 1536]⟩ ⟨2, ![1536, 3072]⟩ (Layout.meshBlock [2, 2] ![[], [1]] c) (fun x : S1536x3072.Idx => whole A B (x 0) (x 1)) (by decide) := by
  funext x
  refine by_bands (P := fun x => result m ρ c x = _) (fun k i j => ?_) x
  unfold result
  rw [← oR_emb, glue_emb, oR_emb, block_out]
  unfold total sent
  rw [received_at]
  show part m ρ c k (ix2 i j) + part m ρ (mate c) k (ix2 i j) = _
  rw [part_at m ρ A B h, part_at m ρ A B h, cy_mate]
  exact halves A B _ _ (cx_mate c) _ _

end Cert.Chunks

end
-- ==== Proof.lean ====
/-
# The claims

The runs and the result's value come from the modules under Proof/; here each is read as its claim says it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Printed
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- For any float values the kernel runs, leaves its operands as they were and ends with every counter at zero. -/
theorem kernel_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun r h => ⟨fun c => ⟨(h.1 c 0).trans (Cert.Chunks.finalA_lhs m g c), (h.1 c 1).trans (Cert.Chunks.finalA_rhs m g c)⟩, h.2⟩)
    (Cert.Chunks.run_main m g)

theorem frame_printed : Cert.quiescent_Kernel := fun m g _ => Cert.Chunks.printed_run _ _ (kernel_frame (F := Bits) m g)

theorem frame_ideal : Cert.quiescent_KernelIdeal := fun m g _ => kernel_frame m g

/-- The reference declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's product, entry by entry. -/
theorem reference_at (A : FVec Ideal ⟨2, ![1536, 1536]⟩ .f32) (B : FVec Ideal ⟨2, ![1536, 3072]⟩ .f32) :
    Host.dotGeneral (F := Ideal) Cert.ReferenceIdeal.dot_S1536x1536_S1536x3072_S1536x3072_1_0_0_1_n_n none A B
      = fun x : Cert.Chunks.S1536x3072.Idx => Cert.Chunks.whole A B (x 0) (x 1) := by
  funext x
  rw [ValueIdx.eq_ix2 x]
  exact StackMember.dotGeneral_plain_apply none A B _ _

/-- Over the extended reals every device ends with its columns of the reference's product. -/
theorem value : Cert.algebraic_KernelIdeal_ReferenceIdeal := by
  intro m g m' g' _ hargs
  refine ⟨fun x : Cert.Chunks.S1536x3072.Idx => Cert.Chunks.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) (x 0) (x 1), ?_, ?_⟩
  · exact (θ_run Cert.KernelIdeal.defs _ _).mono
      (fun r h c => ⟨(h.1 c 2).trans ((Cert.Chunks.finalA_result m g c).trans (Cert.Chunks.result_eq m g _ _ hargs c)),
        (h.1 c 0).trans (Cert.Chunks.finalA_lhs m g c), (h.1 c 1).trans (Cert.Chunks.finalA_rhs m g c)⟩)
      (Cert.Chunks.run_main m g)
  · exact (θ_run Cert.ReferenceIdeal.defs _ _).mono (fun r h => ⟨(h 0).1.trans (reference_at _ _), (h 0).2⟩)
      (Cert.ReferenceIdeal.Value.run (F := Ideal) m' g')

theorem claim : Cert.Claim := ⟨Cert.Kernel.Gen.facts, Cert.KernelIdeal.Gen.facts, Cert.ReferenceIdeal.Gen.facts,
  frame_printed, frame_ideal, frame_reference, trivial, value⟩

end Cert.Proof

end
